-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_and_finite : Cert.Pre_sorted_and_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_ids_in_range.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : FVec F S131072x61 .f32) (main_arg1 : FVec F S131072x3 .f32) (main_arg2 : FVec F S64x64 .f32) (main_arg3 : FVec F S64 .f32) (main_arg4 : IVec S131072 32) : IVec S131072 1 :=
  let main_c : IVec S_ 32 := constantI S_ 32 0#32
  let main_v0 : IVec S131072 32 := broadcastInDim S131072 ![] bcast_S_S131072 main_c
  let main_v1 : IVec S131072 1 := cmpi .sge main_arg4 main_v0
  let main_c_0 : IVec S_ 32 := constantI S_ 32 16#32
  let main_v2 : IVec S131072 32 := broadcastInDim S131072 ![] bcast_S_S131072 main_c_0
  let main_v3 : IVec S131072 1 := cmpi .slt main_arg4 main_v2
  let main_v4 : IVec S131072 1 := andi main_v1 main_v3
  main_v4
-- ==== Pre_sorted_and_finite.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S_ : Shape := ⟨0, ![]⟩
abbrev S131071 : Shape := ⟨1, ![131071]⟩

class Facts : Prop where
  bcast_S_S131072 : S_.BroadcastsInDim S131072 (![] : Fin 0 → Fin S131072.rank)
  slices_S131072_S131071_0 : S131072.Slices ![0] S131071
  slices_S131072_S131071_1 : S131072.Slices ![1] S131071
  bcast_S_S131072x61 : S_.BroadcastsInDim S131072x61 (![] : Fin 0 → Fin S131072x61.rank)
  bcast_S_S131072x3 : S_.BroadcastsInDim S131072x3 (![] : Fin 0 → Fin S131072x3.rank)
  bcast_S_S64x64 : S_.BroadcastsInDim S64x64 (![] : Fin 0 → Fin S64x64.rank)

variable [Facts]

def fn {F : FTy → Type} [FloatOps F] (main_arg0 : FVec F S131072x61 .f32) (main_arg1 : FVec F S131072x3 .f32) (main_arg2 : FVec F S64x64 .f32) (main_arg3 : FVec F S64 .f32) (main_arg4 : IVec S131072 32) : IVec S131072 1 × IVec S131071 1 × IVec S131072x61 1 × IVec S131072x3 1 × IVec S64x64 1 :=
  let main_c : IVec S_ 32 := constantI S_ 32 0#32
  let main_v0 : IVec S131072 32 := broadcastInDim S131072 ![] bcast_S_S131072 main_c
  let main_v1 : IVec S131072 1 := cmpi .sge main_arg4 main_v0
  let main_c_0 : IVec S_ 32 := constantI S_ 32 16#32
  let main_v2 : IVec S131072 32 := broadcastInDim S131072 ![] bcast_S_S131072 main_c_0
  let main_v3 : IVec S131072 1 := cmpi .slt main_arg4 main_v2
  let main_v4 : IVec S131072 1 := andi main_v1 main_v3
  let main_v5 : IVec S131071 32 := (extractStridedSlice S131071 ![0] · slices_S131072_S131071_0) main_arg4
  let main_v6 : IVec S131071 32 := (extractStridedSlice S131071 ![1] · slices_S131072_S131071_1) main_arg4
  let main_v7 : IVec S131071 1 := cmpi .sle main_v5 main_v6
  let main_v8 : FVec F S131072x61 .f32 := Host.absf main_arg0
  let main_cst : FVec F S_ .f32 := constant S_ .f32 0x7F800000#32
  let main_v9 : FVec F S131072x61 .f32 := broadcastInDim S131072x61 ![] bcast_S_S131072x61 main_cst
  let main_v10 : IVec S131072x61 1 := cmpf .olt main_v8 main_v9
  let main_v11 : FVec F S131072x3 .f32 := Host.absf main_arg1
  let main_cst_1 : FVec F S_ .f32 := constant S_ .f32 0x7F800000#32
  let main_v12 : FVec F S131072x3 .f32 := broadcastInDim S131072x3 ![] bcast_S_S131072x3 main_cst_1
  let main_v13 : IVec S131072x3 1 := cmpf .olt main_v11 main_v12
  let main_v14 : FVec F S64x64 .f32 := Host.absf main_arg2
  let main_cst_2 : FVec F S_ .f32 := constant S_ .f32 0x7F800000#32
  let main_v15 : FVec F S64x64 .f32 := broadcastInDim S64x64 ![] bcast_S_S64x64 main_cst_2
  let main_v16 : IVec S64x64 1 := cmpf .olt main_v14 main_v15
  (main_v4, main_v7, main_v10, main_v13, main_v16)
-- ==== Kernel.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S64x61 : Shape := ⟨2, ![64, 61]⟩
abbrev S61x64 : Shape := ⟨2, ![61, 64]⟩
abbrev S64x3 : Shape := ⟨2, ![64, 3]⟩
abbrev S3x64 : Shape := ⟨2, ![3, 64]⟩
abbrev S1x64 : Shape := ⟨2, ![1, 64]⟩
abbrev S32 : Shape := ⟨1, ![32]⟩
abbrev S1x131072 : Shape := ⟨2, ![1, 131072]⟩
abbrev S17 : Shape := ⟨1, ![17]⟩
abbrev S17x1 : Shape := ⟨2, ![17, 1]⟩
abbrev S17x131072 : Shape := ⟨2, ![17, 131072]⟩
abbrev S_ : Shape := ⟨0, ![]⟩
abbrev S16x64 : Shape := ⟨2, ![16, 64]⟩
abbrev S4096x61 : Shape := ⟨2, ![4096, 61]⟩
abbrev S4096x3 : Shape := ⟨2, ![4096, 3]⟩
abbrev S4096x64 : Shape := ⟨2, ![4096, 64]⟩
abbrev S1 : Shape := ⟨1, ![1]⟩
abbrev S4096x1 : Shape := ⟨2, ![4096, 1]⟩
abbrev S4096x128 : Shape := ⟨2, ![4096, 128]⟩
abbrev S2048x128 : Shape := ⟨2, ![2048, 128]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S128 : Shape := ⟨1, ![128]⟩
abbrev S1x128 : Shape := ⟨2, ![1, 128]⟩
abbrev S2048x64 : Shape := ⟨2, ![2048, 64]⟩
abbrev S1024x64 : Shape := ⟨2, ![1024, 64]⟩
abbrev S512x64 : Shape := ⟨2, ![512, 64]⟩
abbrev S256x64 : Shape := ⟨2, ![256, 64]⟩
abbrev S128x64 : Shape := ⟨2, ![128, 64]⟩
abbrev S32x64 : Shape := ⟨2, ![32, 64]⟩
abbrev S8x64 : Shape := ⟨2, ![8, 64]⟩

abbrev nBuf : Space → Nat
  | .hbm => 19
  | .vmem => 8
  | .smem => 3
  | _ => 0

abbrev bufTy : (tb : Table) → Fin (tcTables nBuf tb) → BufTy
  | .hbm, ⟨0, _⟩ => ⟨S131072x61, .f32⟩
  | .hbm, ⟨1, _⟩ => ⟨S131072x3, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S64x61, .f32⟩
  | .hbm, ⟨6, _⟩ => ⟨S61x64, .f32⟩
  | .hbm, ⟨7, _⟩ => ⟨S64x3, .f32⟩
  | .hbm, ⟨8, _⟩ => ⟨S3x64, .f32⟩
  | .hbm, ⟨9, _⟩ => ⟨S1x64, .f32⟩
  | .hbm, ⟨10, _⟩ => ⟨S1x131072, .i32⟩
  | .hbm, ⟨11, _⟩ => ⟨S17, .i32⟩
  | .hbm, ⟨12, _⟩ => ⟨S17x1, .i32⟩
  | .hbm, ⟨13, _⟩ => ⟨S17x131072, .i32⟩
  | .hbm, ⟨14, _⟩ => ⟨S17x131072, .i32⟩
  | .hbm, ⟨15, _⟩ => ⟨S17x131072, .i1⟩
  | .hbm, ⟨16, _⟩ => ⟨S17x131072, .i32⟩
  | .hbm, ⟨17, _⟩ => ⟨S_, .i32⟩
  | .hbm, ⟨18, _⟩ => ⟨S16x64, .f32⟩
  | .local _ .vmem, ⟨0, _⟩ => ⟨S4096x61, .f32⟩
  | .local _ .vmem, ⟨1, _⟩ => ⟨S4096x61, .f32⟩
  | .local _ .vmem, ⟨2, _⟩ => ⟨S4096x3, .f32⟩
  | .local _ .vmem, ⟨3, _⟩ => ⟨S4096x3, .f32⟩
  | .local _ .vmem, ⟨4, _⟩ => ⟨S61x64, .f32⟩
  | .local _ .vmem, ⟨5, _⟩ => ⟨S3x64, .f32⟩
  | .local _ .vmem, ⟨6, _⟩ => ⟨S1x64, .f32⟩
  | .local _ .vmem, ⟨7, _⟩ => ⟨S16x64, .f32⟩
  | .local _ .smem, ⟨0, _⟩ => ⟨S32, .i32⟩
  | .local _ .smem, ⟨1, _⟩ => ⟨S32, .i32⟩
  | .local _ .smem, ⟨2, _⟩ => ⟨S17, .i32⟩
  | _, _ => ⟨S131072x61, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v15 : Ref sig .tc := ⟨.hbm, 18, rfl⟩
abbrev main_v5 : Ref sig .tc := ⟨.smem, 0, rfl⟩
abbrev main_v6 : Ref sig .tc := ⟨.smem, 1, rfl⟩
abbrev main_v14 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_v5.idx, main_v6.idx, main_v14.idx], fun | 0 => main_v5.names | 1 => main_v6.names | 2 => main_v14.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v13 : Index := Scalar.indexCast arg0
  ![v13.toNat]
def k0_off2 (v14 : BitVec 32) : Fin 1 → Nat :=
  let c1_i32 : BitVec 32 := 1#32
  let v18 : BitVec 32 := Scalar.addi v14 c1_i32
  let v19 : Index := Scalar.indexCast v18
  ![v19.toNat]

def k0_off3 (v16 : BitVec 32) : Fin 1 → Nat :=
  let v22 : Index := Scalar.indexCast v16
  ![v22.toNat]

def k0_off4 (v14 : BitVec 32) : Fin 2 → Nat :=
  let v67 : Index := Scalar.indexCast v14
  let c0_12 : Index := 0#32
  ![v67.toNat, 0]

def k0_chk1 (v14 : BitVec 32) : Prop :=
  (∀ a, (k0_off2 v14) a + S1.size a ≤ S17.size a) ∧
  (∀ a, (k0_off4 v14) a + S1x64.size a ≤ S16x64.size a)
theorem k0_off2_inb : ∀ (v14 : BitVec 32) (k0_hw1 : k0_chk1 v14), ∀ a, (k0_off2 v14) a + S1.size a ≤ S17.size a := fun v14 k0_hw1 => k0_hw1.1
theorem k0_off4_inb : ∀ (v14 : BitVec 32) (k0_hw1 : k0_chk1 v14), ∀ a, (k0_off4 v14) a + S1x64.size a ≤ S16x64.size a := fun v14 k0_hw1 => k0_hw1.2

def k0_off5 (v16 : BitVec 32) : Fin 2 → Nat :=
  let v74 : Index := Scalar.indexCast v16
  let c0_14 : Index := 0#32
  ![v74.toNat, 0]
@[reducible] def k0_t1_loop (v14 : BitVec 32) (v16 : BitVec 32) : Scf.Loop 32 :=
  let c1_i32_19 : BitVec 32 := 1#32
  let v88 : BitVec 32 := Scalar.addi v14 c1_i32_19
  let v89 : BitVec 32 := Scalar.subi v16 v88
  let c1_i32_21 : BitVec 32 := 1#32
  let v91 : BitVec 32 := Scalar.divsi v89 c1_i32_21
  let v92 : BitVec 32 := Scalar.muli v91 c1_i32_21
  let v93 : BitVec 32 := Scalar.addi v88 v92
  let c1_i32_22 : BitVec 32 := 1#32
  ⟨v88, v93, c1_i32_22⟩
def k0_cond2 (v14 : BitVec 32) (v16 : BitVec 32) : BitVec 1 :=
  let c1_i32_16 : BitVec 32 := 1#32
  let v81 : BitVec 32 := Scalar.addi v14 c1_i32_16
  let v82 : BitVec 1 := Scalar.cmpi .sgt v16 v81
  let v83 : BitVec 32 := Scalar.extui v82
  let c0_i32_17 : BitVec 32 := 0#32
  let v84 : BitVec 1 := Scalar.cmpi .ne v83 c0_i32_17
  v84

def k0_off6 (v14 : BitVec 32) (v16 : BitVec 32) (k0_t1 : Fin (k0_t1_loop v14 v16).trips) : Fin 1 → Nat :=
  let c1_i32_19 : BitVec 32 := 1#32
  let v88 : BitVec 32 := Scalar.addi v14 c1_i32_19
  let c1_i32_22 : BitVec 32 := 1#32
  let arg10 : BitVec 32 := Scf.iv v88 c1_i32_22 k0_t1
  let v96 : Index := Scalar.indexCast arg10
  ![v96.toNat]
def k0_off7 (v14 : BitVec 32) (v16 : BitVec 32) (k0_t1 : Fin (k0_t1_loop v14 v16).trips) : Fin 1 → Nat :=
  let c1_i32_19 : BitVec 32 := 1#32
  let v88 : BitVec 32 := Scalar.addi v14 c1_i32_19
  let c1_i32_22 : BitVec 32 := 1#32
  let arg10 : BitVec 32 := Scf.iv v88 c1_i32_22 k0_t1
  let c1_i32_24 : BitVec 32 := 1#32
  let v99 : BitVec 32 := Scalar.addi arg10 c1_i32_24
  let v100 : Index := Scalar.indexCast v99
  ![v100.toNat]
def k0_off8 (v14 : BitVec 32) (v16 : BitVec 32) (k0_t1 : Fin (k0_t1_loop v14 v16).trips) : Fin 2 → Nat :=
  let c1_i32_19 : BitVec 32 := 1#32
  let v88 : BitVec 32 := Scalar.addi v14 c1_i32_19
  let c1_i32_22 : BitVec 32 := 1#32
  let arg10 : BitVec 32 := Scf.iv v88 c1_i32_22 k0_t1
  let v141 : Index := Scalar.indexCast arg10
  let c0_27 : Index := 0#32
  ![v141.toNat, 0]
@[reducible] def k0_t2_loop (v14 : BitVec 32) (v16 : BitVec 32) : Scf.Loop 32 :=
  let c1_i32_19 : BitVec 32 := 1#32
  let v88 : BitVec 32 := Scalar.addi v14 c1_i32_19
  let v89 : BitVec 32 := Scalar.subi v16 v88
  let c1_i32_21 : BitVec 32 := 1#32
  let v91 : BitVec 32 := Scalar.divsi v89 c1_i32_21
  let v92 : BitVec 32 := Scalar.muli v91 c1_i32_21
  let v93 : BitVec 32 := Scalar.addi v88 v92
  let v90 : BitVec 32 := Scalar.addi v88 v89
  let c1_i32_23 : BitVec 32 := 1#32
  ⟨v93, v90, c1_i32_23⟩
def k0_off9 (v14 : BitVec 32) (v16 : BitVec 32) (k0_t2 : Fin (k0_t2_loop v14 v16).trips) : Fin 1 → Nat :=
  let c1_i32_19 : BitVec 32 := 1#32
  let v88 : BitVec 32 := Scalar.addi v14 c1_i32_19
  let v89 : BitVec 32 := Scalar.subi v16 v88
  let c1_i32_21 : BitVec 32 := 1#32
  let v91 : BitVec 32 := Scalar.divsi v89 c1_i32_21
  let v92 : BitVec 32 := Scalar.muli v91 c1_i32_21
  let v93 : BitVec 32 := Scalar.addi v88 v92
  let c1_i32_23 : BitVec 32 := 1#32
  let arg10 : BitVec 32 := Scf.iv v93 c1_i32_23 k0_t2
  let v96 : Index := Scalar.indexCast arg10
  ![v96.toNat]
def k0_off10 (v14 : BitVec 32) (v16 : BitVec 32) (k0_t2 : Fin (k0_t2_loop v14 v16).trips) : Fin 1 → Nat :=
  let c1_i32_19 : BitVec 32 := 1#32
  let v88 : BitVec 32 := Scalar.addi v14 c1_i32_19
  let v89 : BitVec 32 := Scalar.subi v16 v88
  let c1_i32_21 : BitVec 32 := 1#32
  let v91 : BitVec 32 := Scalar.divsi v89 c1_i32_21
  let v92 : BitVec 32 := Scalar.muli v91 c1_i32_21
  let v93 : BitVec 32 := Scalar.addi v88 v92
  let c1_i32_23 : BitVec 32 := 1#32
  let arg10 : BitVec 32 := Scf.iv v93 c1_i32_23 k0_t2
  let c1_i32_24 : BitVec 32 := 1#32
  let v99 : BitVec 32 := Scalar.addi arg10 c1_i32_24
  let v100 : Index := Scalar.indexCast v99
  ![v100.toNat]
def k0_off11 (v14 : BitVec 32) (v16 : BitVec 32) (k0_t2 : Fin (k0_t2_loop v14 v16).trips) : Fin 2 → Nat :=
  let c1_i32_19 : BitVec 32 := 1#32
  let v88 : BitVec 32 := Scalar.addi v14 c1_i32_19
  let v89 : BitVec 32 := Scalar.subi v16 v88
  let c1_i32_21 : BitVec 32 := 1#32
  let v91 : BitVec 32 := Scalar.divsi v89 c1_i32_21
  let v92 : BitVec 32 := Scalar.muli v91 c1_i32_21
  let v93 : BitVec 32 := Scalar.addi v88 v92
  let c1_i32_23 : BitVec 32 := 1#32
  let arg10 : BitVec 32 := Scf.iv v93 c1_i32_23 k0_t2
  let v141 : Index := Scalar.indexCast arg10
  let c0_27 : Index := 0#32
  ![v141.toNat, 0]

def k0_chk2 (v14 : BitVec 32) (v16 : BitVec 32) : Prop :=
  (∀ a, (k0_off3 v16) a + S1.size a ≤ S17.size a) ∧
  (∀ a, (k0_off5 v16) a + S1x64.size a ≤ S16x64.size a) ∧
  (∀ (k0_h2 : k0_cond2 v14 v16 = 1#1), (k0_t1_loop v14 v16).OK) ∧
  (∀ k0_t1 : Fin (k0_t1_loop v14 v16).trips, ∀ (k0_h2 : k0_cond2 v14 v16 = 1#1), ∀ a, (k0_off6 v14 v16 k0_t1) a + S1.size a ≤ S17.size a) ∧
  (∀ k0_t1 : Fin (k0_t1_loop v14 v16).trips, ∀ (k0_h2 : k0_cond2 v14 v16 = 1#1), ∀ a, (k0_off7 v14 v16 k0_t1) a + S1.size a ≤ S17.size a) ∧
  (∀ k0_t1 : Fin (k0_t1_loop v14 v16).trips, ∀ (k0_h2 : k0_cond2 v14 v16 = 1#1), ∀ a, (k0_off8 v14 v16 k0_t1) a + S1x64.size a ≤ S16x64.size a) ∧
  (∀ (k0_h2 : k0_cond2 v14 v16 = 1#1), (k0_t2_loop v14 v16).OK) ∧
  (∀ k0_t2 : Fin (k0_t2_loop v14 v16).trips, ∀ (k0_h2 : k0_cond2 v14 v16 = 1#1), ∀ a, (k0_off9 v14 v16 k0_t2) a + S1.size a ≤ S17.size a) ∧
  (∀ k0_t2 : Fin (k0_t2_loop v14 v16).trips, ∀ (k0_h2 : k0_cond2 v14 v16 = 1#1), ∀ a, (k0_off10 v14 v16 k0_t2) a + S1.size a ≤ S17.size a) ∧
  (∀ k0_t2 : Fin (k0_t2_loop v14 v16).trips, ∀ (k0_h2 : k0_cond2 v14 v16 = 1#1), ∀ a, (k0_off11 v14 v16 k0_t2) a + S1x64.size a ≤ S16x64.size a)
theorem k0_off3_inb : ∀ (v14 : BitVec 32) (v16 : BitVec 32) (k0_hw2 : k0_chk2 v14 v16), ∀ a, (k0_off3 v16) a + S1.size a ≤ S17.size a := fun v14 v16 k0_hw2 => k0_hw2.1
theorem k0_off5_inb : ∀ (v14 : BitVec 32) (v16 : BitVec 32) (k0_hw2 : k0_chk2 v14 v16), ∀ a, (k0_off5 v16) a + S1x64.size a ≤ S16x64.size a := fun v14 v16 k0_hw2 => k0_hw2.2.1
theorem k0_t1_ok : ∀ (v14 : BitVec 32) (v16 : BitVec 32) (k0_hw2 : k0_chk2 v14 v16), ∀ (k0_h2 : k0_cond2 v14 v16 = 1#1), (k0_t1_loop v14 v16).OK := fun v14 v16 k0_hw2 k0_h2 => k0_hw2.2.2.1 k0_h2
theorem k0_off6_inb : ∀ (v14 : BitVec 32) (v16 : BitVec 32) (k0_hw2 : k0_chk2 v14 v16) (k0_t1 : Fin (k0_t1_loop v14 v16).trips), ∀ (k0_h2 : k0_cond2 v14 v16 = 1#1), ∀ a, (k0_off6 v14 v16 k0_t1) a + S1.size a ≤ S17.size a := fun v14 v16 k0_hw2 k0_t1 k0_h2 => k0_hw2.2.2.2.1 k0_t1 k0_h2
theorem k0_off7_inb : ∀ (v14 : BitVec 32) (v16 : BitVec 32) (k0_hw2 : k0_chk2 v14 v16) (k0_t1 : Fin (k0_t1_loop v14 v16).trips), ∀ (k0_h2 : k0_cond2 v14 v16 = 1#1), ∀ a, (k0_off7 v14 v16 k0_t1) a + S1.size a ≤ S17.size a := fun v14 v16 k0_hw2 k0_t1 k0_h2 => k0_hw2.2.2.2.2.1 k0_t1 k0_h2
theorem k0_off8_inb : ∀ (v14 : BitVec 32) (v16 : BitVec 32) (k0_hw2 : k0_chk2 v14 v16) (k0_t1 : Fin (k0_t1_loop v14 v16).trips), ∀ (k0_h2 : k0_cond2 v14 v16 = 1#1), ∀ a, (k0_off8 v14 v16 k0_t1) a + S1x64.size a ≤ S16x64.size a := fun v14 v16 k0_hw2 k0_t1 k0_h2 => k0_hw2.2.2.2.2.2.1 k0_t1 k0_h2
theorem k0_t2_ok : ∀ (v14 : BitVec 32) (v16 : BitVec 32) (k0_hw2 : k0_chk2 v14 v16), ∀ (k0_h2 : k0_cond2 v14 v16 = 1#1), (k0_t2_loop v14 v16).OK := fun v14 v16 k0_hw2 k0_h2 => k0_hw2.2.2.2.2.2.2.1 k0_h2
theorem k0_off9_inb : ∀ (v14 : BitVec 32) (v16 : BitVec 32) (k0_hw2 : k0_chk2 v14 v16) (k0_t2 : Fin (k0_t2_loop v14 v16).trips), ∀ (k0_h2 : k0_cond2 v14 v16 = 1#1), ∀ a, (k0_off9 v14 v16 k0_t2) a + S1.size a ≤ S17.size a := fun v14 v16 k0_hw2 k0_t2 k0_h2 => k0_hw2.2.2.2.2.2.2.2.1 k0_t2 k0_h2
theorem k0_off10_inb : ∀ (v14 : BitVec 32) (v16 : BitVec 32) (k0_hw2 : k0_chk2 v14 v16) (k0_t2 : Fin (k0_t2_loop v14 v16).trips), ∀ (k0_h2 : k0_cond2 v14 v16 = 1#1), ∀ a, (k0_off10 v14 v16 k0_t2) a + S1.size a ≤ S17.size a := fun v14 v16 k0_hw2 k0_t2 k0_h2 => k0_hw2.2.2.2.2.2.2.2.2.1 k0_t2 k0_h2
theorem k0_off11_inb : ∀ (v14 : BitVec 32) (v16 : BitVec 32) (k0_hw2 : k0_chk2 v14 v16) (k0_t2 : Fin (k0_t2_loop v14 v16).trips), ∀ (k0_h2 : k0_cond2 v14 v16 = 1#1), ∀ a, (k0_off11 v14 v16 k0_t2) a + S1x64.size a ≤ S16x64.size a := fun v14 v16 k0_hw2 k0_t2 k0_h2 => k0_hw2.2.2.2.2.2.2.2.2.2 k0_t2 k0_h2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x61 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S61x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S131072x64 : Shape := ⟨2, ![131072, 64]⟩
abbrev S1x64 : Shape := ⟨2, ![1, 64]⟩
abbrev S_ : Shape := ⟨0, ![]⟩
abbrev S16 : Shape := ⟨1, ![16]⟩
abbrev S1x131072x1 : Shape := ⟨3, ![1, 131072, 1]⟩
abbrev S16x1x1 : Shape := ⟨3, ![16, 1, 1]⟩
abbrev S16x131072x1 : Shape := ⟨3, ![16, 131072, 1]⟩
abbrev S1x131072x64 : Shape := ⟨3, ![1, 131072, 64]⟩
abbrev S16x131072x64 : Shape := ⟨3, ![16, 131072, 64]⟩
abbrev S16x64 : Shape := ⟨2, ![16, 64]⟩

abbrev nBuf : Space → Nat
  | .hbm => 29
  | .vmem => 0
  | .smem => 0
  | _ => 0

abbrev bufTy : (tb : Table) → Fin (tcTables nBuf tb) → BufTy
  | .hbm, ⟨0, _⟩ => ⟨S131072x61, .f32⟩
  | .hbm, ⟨1, _⟩ => ⟨S131072x3, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S131072x64, .f32⟩
  | .hbm, ⟨6, _⟩ => ⟨S64x64, .f32⟩
  | .hbm, ⟨7, _⟩ => ⟨S131072x64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S_, .f32⟩
  | .hbm, ⟨12, _⟩ => ⟨S131072x64, .f32⟩
  | .hbm, ⟨13, _⟩ => ⟨S131072x64, .f32⟩
  | .hbm, ⟨14, _⟩ => ⟨S16, .i32⟩
  | .hbm, ⟨15, _⟩ => ⟨S1x131072x1, .i32⟩
  | .hbm, ⟨16, _⟩ => ⟨S16x1x1, .i32⟩
  | .hbm, ⟨17, _⟩ => ⟨S16x131072x1, .i32⟩
  | .hbm, ⟨18, _⟩ => ⟨S16x131072x1, .i32⟩
  | .hbm, ⟨19, _⟩ => ⟨S16x131072x1, .i1⟩
  | .hbm, ⟨20, _⟩ => ⟨S1x131072x64, .f32⟩
  | .hbm, ⟨21, _⟩ => ⟨S_, .f32⟩
  | .hbm, ⟨22, _⟩ => ⟨S_, .f32⟩
  | .hbm, ⟨23, _⟩ => ⟨S16x131072x64, .i1⟩
  | .hbm, ⟨24, _⟩ => ⟨S16x131072x64, .f32⟩
  | .hbm, ⟨25, _⟩ => ⟨S16x131072x64, .f32⟩
  | .hbm, ⟨26, _⟩ => ⟨S16x131072x64, .f32⟩
  | .hbm, ⟨27, _⟩ => ⟨S_, .f32⟩
  | .hbm, ⟨28, _⟩ => ⟨S16x64, .f32⟩
  | _, _ => ⟨S131072x61, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.KernelWords.lean ====
/- The two boundary words of a block are segment ids below 16: what the kernel's index arithmetic does with such words. -/
module

public import proofs.«01_k».proof.Proof.Gen.Kernel

@[expose] public section

noncomputable section

namespace Cert.Kernel.Pool

open Idealize.ShloMosaic Cert.Kernel.Gen

/-- Every access the kernel computes from two segment ids below 16 lies inside its array (all pairs checked). -/
theorem checks_of_fin : ∀ a b : Fin 16, k0_chk1 (BitVec.ofNat 32 a.val) ∧ k0_chk2 (BitVec.ofNat 32 a.val) (BitVec.ofNat 32 b.val) := by
  decide +kernel

/-- A word below 16 is the word of a number below 16. -/
theorem word_eq {w : BitVec 32} (h : w.toNat < 16) : w = BitVec.ofNat 32 (⟨w.toNat, h⟩ : Fin 16).val := by
  simp

/-- The first boundary id's accesses are inside. -/
theorem chk1_of_lt {v : BitVec 32} (h : v.toNat < 16) : k0_chk1 v := by
  rw [word_eq h]; exact (checks_of_fin ⟨v.toNat, h⟩ 0).1

/-- The second boundary id's accesses, and the inner loop's, are inside. -/
theorem chk2_of_lt {v w : BitVec 32} (hv : v.toNat < 16) (hw : w.toNat < 16) : k0_chk2 v w := by
  rw [word_eq hv, word_eq hw]; exact (checks_of_fin ⟨v.toNat, hv⟩ ⟨w.toNat, hw⟩).2

/-- The loop left over after the whole trips makes no trip. -/
theorem t2_trips_of_fin : ∀ a b : Fin 16, k0_cond2 (BitVec.ofNat 32 a.val) (BitVec.ofNat 32 b.val) = 1#1 →
    (k0_t2_loop (BitVec.ofNat 32 a.val) (BitVec.ofNat 32 b.val)).trips = 0 := by
  decide +kernel

/-- The same for any two words below 16. -/
theorem t2_trips {v w : BitVec 32} (hv : v.toNat < 16) (hw : w.toNat < 16) (hc : k0_cond2 v w = 1#1) : (k0_t2_loop v w).trips = 0 := by
  rw [word_eq hv, word_eq hw] at hc ⊢; exact t2_trips_of_fin _ _ hc

end Cert.Kernel.Pool

end
-- ==== Proof.IdealKit.lean ====
/- The launch of the pooling kernel, before its body: what the host operations leave in every buffer, the tables the kernel
   reads, the block each window holds, and the conditions of the kernel's branches over the grid. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The host operations before the kernel -/

/-- What core `c`'s buffers hold when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations and then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is found as it was. -/
theorem V_of_unwritten (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

/-- No host operation writes an argument. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) := by
  refine ⟨?_, ?_, ?_, ?_, ?_⟩ <;> exact V_of_unwritten m c _ (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))

/-! ## The tables -/

/-- The tables' contents: first ids, last ids, and the number of rows below each id. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- No window is placed by a table. -/
theorem ok : ok0 (F := F) (tbl m) := by unfold ok0; trivial

abbrev adm : (pcfg0 (F := F)).Adm := ⟨tbl m, ok m⟩
abbrev cfgM : Pipeline.Cfg sig Λ₀ := cfg0 (adm m)

abbrev tb0 : Memref sig .tc .smem S32 .i32 := Memref.whole main_v5
abbrev tb1 : Memref sig .tc .smem S32 .i32 := Memref.whole main_v6
abbrev tb2 : Memref sig .tc .smem S17 .i32 := Memref.whole main_v14

/-- A table's contents, and the half of the table the kernel holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows -/

/-- Window `w`'s block at point `t`, read off its array as the kernel finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input's staging buffer holds its block at every point, whether or not it was fetched there. -/
theorem before_of {c : Dev nD} (dat : Dat τ (Elt F) Unit ℕ (UR sig nD τ) ℕ (cfgM m) c) (w : Fin 6) (hw : w.val < 5)
    (hA : dat.A w = V m c (Pipeline.arrRef spec0 w))
    (hafter : ∀ t, dat.after w t = iblk m c w t) (t : Fin (cfgM m).N) (d) : dat.before w t d = iblk m c w t := by
  match w, hw with
  | 0, _ | 1, _ | 2, _ | 3, _ | 4, _ =>
    exact (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)

/-- The current staging memref of each window. -/
abbrev ms0 (t : Fin (cfgM m).N) : Memref sig .tc .vmem S4096x61 .f32 := spec0_0.stage ((cfgM m).slots t 0)
abbrev ms1 (t : Fin (cfgM m).N) : Memref sig .tc .vmem S4096x3 .f32 := spec0_1.stage ((cfgM m).slots t 1)
abbrev ms2 (t : Fin (cfgM m).N) : Memref sig .tc .vmem S61x64 .f32 := spec0_2.stage ((cfgM m).slots t 2)
abbrev ms3 (t : Fin (cfgM m).N) : Memref sig .tc .vmem S3x64 .f32 := spec0_3.stage ((cfgM m).slots t 3)
abbrev ms4 (t : Fin (cfgM m).N) : Memref sig .tc .vmem S1x64 .f32 := spec0_4.stage ((cfgM m).slots t 4)
abbrev ms5 (t : Fin (cfgM m).N) : Memref sig .tc .vmem S16x64 .f32 := spec0_5.stage ((cfgM m).slots t 5)

/-- The kernel's body at point `t`, on the memrefs it is called with. -/
abbrev bodyAt (t : Fin (cfgM m).N) : Prog (TpuEff nD τ sig (Elt F) Λ₀ .tc) PUnit :=
  cc0__pool_kernel (grid0.coords t) tb0 (Memref.isWhole_whole _) tb1 (Memref.isWhole_whole _) tb2 (Memref.isWhole_whole _)
    (ms0 m t) (hstage0_0 (((cfgM m).slots t 0).cast nbuf0_0)) (ms1 m t) (hstage0_1 (((cfgM m).slots t 1).cast nbuf0_1))
    (ms2 m t) (hstage0_2 (((cfgM m).slots t 2).cast nbuf0_2)) (ms3 m t) (hstage0_3 (((cfgM m).slots t 3).cast nbuf0_3))
    (ms4 m t) (hstage0_4 (((cfgM m).slots t 4).cast nbuf0_4)) (ms5 m t) (hstage0_5 (((cfgM m).slots t 5).cast nbuf0_5))

/-- The body table's row for the kernel is that body. -/
theorem defs₀_row (t : Fin (cfgM m).N) :
    defs₀ (F := F) .tc (cfgM m).body ((cfgM m).bodyArgs t ((cfgM m).slots t)) = bodyAt m t := by
  unfold defs₀; rw [Defs.onTc_tc]

/-! ## The launch's conclusion, read at the arguments -/

/-- A run to the launch's conclusion leaves the five arguments as they were. -/
theorem args_of {rdat : (c : Dev nD) → Pipeline.RDat τ (Elt F) Unit ℕ (UR sig nD τ) ℕ ((Pipeline.pin pcfgs fun _ => adm m) 0) c}
    (hA : ∀ c w, (rdat c).A w = V m c (Pipeline.arrRef spec0 w)) {r}
    (h : Pipeline.RDat.FramePost ((Pipeline.pin pcfgs fun _ => adm m) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((hA c 0).trans (V_args m c).1),
    (Pipeline.RDat.FramePost.arr_in h c 1 rfl).trans ((hA c 1).trans (V_args m c).2.1),
    ((h c).2 main_arg2 (by decide : main_arg2 ∈ Pipeline.restRefs sig spec0)).trans (V_args m c).2.2.1,
    ((h c).2 main_arg3 (by decide : main_arg3 ∈ Pipeline.restRefs sig spec0)).trans (V_args m c).2.2.2.1,
    ((h c).2 main_arg4 (by decide : main_arg4 ∈ Pipeline.restRefs sig spec0)).trans (V_args m c).2.2.2.2⟩

end Cert.KernelIdeal.Pool

end
-- ==== Proof.IdealWords.lean ====
/- The two boundary words of a block are segment ids below 16: what the kernel's index arithmetic does with such words. -/
module

public import proofs.«01_k».proof.Proof.Gen.KernelIdeal

@[expose] public section

noncomputable section

namespace Cert.KernelIdeal.Pool

open Idealize.ShloMosaic Cert.KernelIdeal.Gen

/-- Every access the kernel computes from two segment ids below 16 lies inside its array (all pairs checked). -/
theorem checks_of_fin : ∀ a b : Fin 16, k0_chk1 (BitVec.ofNat 32 a.val) ∧ k0_chk2 (BitVec.ofNat 32 a.val) (BitVec.ofNat 32 b.val) := by
  decide +kernel

/-- A word below 16 is the word of a number below 16. -/
theorem word_eq {w : BitVec 32} (h : w.toNat < 16) : w = BitVec.ofNat 32 (⟨w.toNat, h⟩ : Fin 16).val := by
  simp

/-- The first boundary id's accesses are inside. -/
theorem chk1_of_lt {v : BitVec 32} (h : v.toNat < 16) : k0_chk1 v := by
  rw [word_eq h]; exact (checks_of_fin ⟨v.toNat, h⟩ 0).1

/-- The second boundary id's accesses, and the inner loop's, are inside. -/
theorem chk2_of_lt {v w : BitVec 32} (hv : v.toNat < 16) (hw : w.toNat < 16) : k0_chk2 v w := by
  rw [word_eq hv, word_eq hw]; exact (checks_of_fin ⟨v.toNat, hv⟩ ⟨w.toNat, hw⟩).2

/-- The loop left over after the whole trips makes no trip. -/
theorem t2_trips_of_fin : ∀ a b : Fin 16, k0_cond2 (BitVec.ofNat 32 a.val) (BitVec.ofNat 32 b.val) = 1#1 →
    (k0_t2_loop (BitVec.ofNat 32 a.val) (BitVec.ofNat 32 b.val)).trips = 0 := by
  decide +kernel

/-- The same for any two words below 16. -/
theorem t2_trips {v w : BitVec 32} (hv : v.toNat < 16) (hw : w.toNat < 16) (hc : k0_cond2 v w = 1#1) : (k0_t2_loop v w).trips = 0 := by
  rw [word_eq hv, word_eq hw] at hc ⊢; exact t2_trips_of_fin _ _ hc

end Cert.KernelIdeal.Pool

end
-- ==== Proof.IdealBody.lean ====
/- The kernel's body at one grid point runs, whatever the windows hold, as soon as the block's two boundary ids are below 16. -/
module

public import proofs.«01_k».proof.Proof.IdealKit
public import proofs.«01_k».proof.Proof.IdealWords

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The first segment id of block `i`, as the kernel reads it off its table. -/
abbrev loWord (c : Dev nD) (i : grid0.Coords) (f : TbBuf (F := F) c tb0) : Elt F .i32 :=
  tb0.view.readAt (Elt F) (Rect.unit (s := S32) (k0_off1 i) S1.size (k0_off1_inb i)).toLoadRect f (Shape.Idx.first (numel1_S1.symm ▸ Nat.one_pos))
/-- The last segment id of block `i`, as the kernel reads it off its table. -/
abbrev hiWord (c : Dev nD) (i : grid0.Coords) (f : TbBuf (F := F) c tb1) : Elt F .i32 :=
  tb1.view.readAt (Elt F) (Rect.unit (s := S32) (k0_off1 i) S1.size (k0_off1_inb i)).toLoadRect f (Shape.Idx.first (numel1_S1.symm ▸ Nat.one_pos))

/-- What the later half of the body holds throughout: the counts table, and the output at some contents. -/
abbrev Out (c : Dev nD) (arg9 : Memref sig .tc .vmem S16x64 .f32) (t2 : TbBuf (F := F) c tb2) : sProp 𝕄 :=
  iprop(tbPt c tb2 t2 ∗ ∃ d, owns (c : Thread nD τ) arg9 fullShare d)

set_option maxHeartbeats 4000000 in
/-- The later half of the body: it reads the counts and updates rows of the output, in its loop too. -/
theorem part2_runs (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (t2 : TbBuf (F := F) c tb2) (a0 v0 : BitVec 32) (v12 : FVec F S4096x64 .f32) (v14 : BitVec 32) (hw1 : k0_chk1 v14) (v16 : BitVec 32) (hw2 : k0_chk2 v14 v16)
    (ht : k0_cond2 v14 v16 = 1#1 → (k0_t2_loop v14 v16).trips = 0)
    (v17 : IVec S4096x1 32) (v38 v39 : FVec F S2048x128 .f32) (E : Set ℕ) (K : BitVec 1 → sProp 𝕄) :
    iprop(Out c arg9 t2 ∗ (∀ b, Out c arg9 t2 -∗ K b))
      ⊢ wp frame (wpE (defs₀ (F := F)) Variants.none c none) E
          (k0_part2 i tb0 (Memref.isWhole_whole _) tb1 (Memref.isWhole_whole _) tb2 (Memref.isWhole_whole _) arg4 harg4 arg5 harg5 arg6 harg6 arg7 harg7 arg8 harg8 arg9 harg9
            a0 v0 v12 v14 hw1 v16 hw2 v17 v38 v39) K := by
  simp only [k0_part2_eq_skeleton]; unfold k0_part2_skel
  unfold Out owns
  iintro ⟨⟨HT, %d, %f, -, H⟩, Hk⟩
  by_cases h2 : k0_cond2 v14 v16 = 1#1
  · sl_exec (disch := sl_exact h2)
    sl_for (fun _ _ => Out c arg9 t2) $$ [HT H]
    case region =>
      intro k acc
      unfold Out owns
      iintro ⟨HT, %d, %f, -, H⟩
      sl_exec
      sl_step
      isplitl [HT]; · iexact HT
      iexists _, _; isplitr; swap; · iexact H
      ipureintro; rfl
    · unfold Out owns; isplitl [HT]; · iexact HT
      iexists _, _; isplitr; swap; · iexact H
      ipureintro; rfl
    iintro %acc HO
    sl_exec
    sl_for0 (ht h2)
    sl_exec
    sl_step
    iapply Hk
    iexact HO
  · sl_exec (disch := sl_exact h2)
    sl_step
    iapply Hk
    isplitl [HT]; · iexact HT
    iexists _, _; isplitr; swap; · iexact H
    ipureintro; rfl

/-- The inputs of the body, and its two tables of boundary ids, as it holds them throughout. -/
abbrev Ins (c : Dev nD) (arg4 : Memref sig .tc .vmem S4096x61 .f32) (arg5 : Memref sig .tc .vmem S4096x3 .f32)
    (arg6 : Memref sig .tc .vmem S61x64 .f32) (arg7 : Memref sig .tc .vmem S3x64 .f32)
    (x0 : Vec F S4096x61 .f32) (x1 : Vec F S4096x3 .f32) (x2 : Vec F S61x64 .f32) (x3 : Vec F S3x64 .f32)
    (t0 : TbBuf (F := F) c tb0) (t1 : TbBuf (F := F) c tb1) : sProp 𝕄 :=
  iprop(owns (c : Thread nD τ) arg4 fullShare x0 ∗ owns (c : Thread nD τ) arg5 fullShare x1 ∗ owns (c : Thread nD τ) arg6 fullShare x2
        ∗ owns (c : Thread nD τ) arg7 fullShare x3 ∗ tbPt c tb0 t0 ∗ tbPt c tb1 t1)

set_option maxHeartbeats 4000000 in
/-- The earlier half of the body: at the first point it clears the output; it reads the blocks and the boundary ids, which pass their checks. -/
theorem part1_runs (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (x0 : Vec F S4096x61 .f32) (x1 : Vec F S4096x3 .f32) (x2 : Vec F S61x64 .f32) (x3 : Vec F S3x64 .f32)
    (t0 : TbBuf (F := F) c tb0) (t1 : TbBuf (F := F) c tb1) (t2 : TbBuf (F := F) c tb2)
    (hw1 : k0_chk1 (loWord c i t0)) (hw2 : k0_chk2 (loWord c i t0) (hiWord c i t1)) (E : Set ℕ)
    (K : (Σ' (arg0 : BitVec 32) (v0 : BitVec 32) (v12 : FVec F S4096x64 .f32) (v14 : Elt F .i32) (k0_hw1 : k0_chk1 v14) (v16 : Elt F .i32) (k0_hw2 : k0_chk2 v14 v16) (v17 : IVec S4096x1 32) (v38 : FVec F S2048x128 .f32), FVec F S2048x128 .f32) → sProp 𝕄) :
    iprop(Ins c arg4 arg5 arg6 arg7 x0 x1 x2 x3 t0 t1 ∗ Out c arg9 t2
        ∗ (∀ a0 v0 v12 v17 v38 v39, Ins c arg4 arg5 arg6 arg7 x0 x1 x2 x3 t0 t1 ∗ Out c arg9 t2
            -∗ K ⟨a0, v0, v12, loWord c i t0, hw1, hiWord c i t1, hw2, v17, v38, v39⟩))
      ⊢ wp frame (wpE (defs₀ (F := F)) Variants.none c none) E
          (k0_part1 i tb0 (Memref.isWhole_whole _) tb1 (Memref.isWhole_whole _) tb2 (Memref.isWhole_whole _) arg4 harg4 arg5 harg5 arg6 harg6 arg7 harg7 arg8 harg8 arg9 harg9) K := by
  simp only [k0_part1_eq_skeleton]; unfold k0_part1_skel
  unfold Ins Out owns
  iintro ⟨⟨⟨%f0, %hf0, H0⟩, ⟨%f1, %hf1, H1⟩, ⟨%f2, %hf2, H2⟩, ⟨%f3, %hf3, H3⟩, HT0, HT1⟩, ⟨HT2, %d5, %f5, -, H5⟩, Hk⟩
  obtain rfl := harg4.eq_unread hf0; obtain rfl := harg5.eq_unread hf1; obtain rfl := harg6.eq_unread hf2
  obtain rfl := harg7.eq_unread hf3
  by_cases hi0 : Scalar.cmpi .ne (Scalar.extui (Scalar.cmpi .eq (BitVec.ofNat 32 (i 0).val) 0#32)) 0#32 = 1#1
  all_goals
    sl_exec (disch := first | sl_exact hw1 | sl_exact hw2 | sl_exact hi0)
    sl_step
    sl_unfold_run_names
    iapply Hk
    isplitl [H0 H1 H2 H3 HT0 HT1]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [HT0]; · iexact HT0
      iexact HT1
    isplitl [HT2]; · iexact HT2
    iexists _, _; isplitr; swap; · iexact H5
    ipureintro; rfl

set_option maxHeartbeats 4000000 in
/-- The body at any point: the inputs and the tables come back as they were, the output at some contents. -/
theorem body_runs (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (x0 : Vec F S4096x61 .f32) (x1 : Vec F S4096x3 .f32) (x2 : Vec F S61x64 .f32) (x3 : Vec F S3x64 .f32) (x4 : Vec F S1x64 .f32)
    (t0 : TbBuf (F := F) c tb0) (t1 : TbBuf (F := F) c tb1) (t2 : TbBuf (F := F) c tb2)
    (hlo : (loWord c i t0).toNat < 16) (hhi : (hiWord c i t1).toNat < 16) (E : Set ℕ) (K : PUnit → sProp 𝕄) :
    iprop(Ins c arg4 arg5 arg6 arg7 x0 x1 x2 x3 t0 t1 ∗ owns (c : Thread nD τ) arg8 fullShare x4 ∗ Out c arg9 t2
        ∗ (Ins c arg4 arg5 arg6 arg7 x0 x1 x2 x3 t0 t1 ∗ owns (c : Thread nD τ) arg8 fullShare x4 ∗ Out c arg9 t2 -∗ K ⟨⟩))
      ⊢ wp frame (wpE (defs₀ (F := F)) Variants.none c none) E
          (cc0__pool_kernel i tb0 (Memref.isWhole_whole _) tb1 (Memref.isWhole_whole _) tb2 (Memref.isWhole_whole _) arg4 harg4 arg5 harg5 arg6 harg6 arg7 harg7 arg8 harg8 arg9 harg9) K := by
  have hw1 : k0_chk1 (loWord c i t0) := chk1_of_lt hlo
  have hw2 : k0_chk2 (loWord c i t0) (hiWord c i t1) := chk2_of_lt hlo hhi
  simp only [cc0__pool_kernel_eq_skeleton]; unfold cc0__pool_kernel_skel
  rw [wp_bind]
  iintro ⟨HI, H4, HO, Hk⟩
  iapply part1_runs c i arg4 harg4 arg5 harg5 arg6 harg6 arg7 harg7 arg8 harg8 arg9 harg9 x0 x1 x2 x3 t0 t1 t2 hw1 hw2
  isplitl [HI]; · iexact HI
  isplitl [HO]; · iexact HO
  iintro %a0 %v0 %v12 %v17 %v38 %v39 ⟨HI, HO⟩
  dsimp only
  irw [wp_bind]
  iapply part2_runs c i arg4 harg4 arg5 harg5 arg6 harg6 arg7 harg7 arg8 harg8 arg9 harg9 t2 a0 v0 v12 (loWord c i t0) hw1 (hiWord c i t1) hw2 (t2_trips hlo hhi) v17 v38 v39
  isplitl [HO]; · iexact HO
  iintro %b HO
  unfold Out owns
  icases H4 with ⟨%f4, %hf4, H4⟩
  obtain rfl := harg8.eq_unread hf4
  icases HO with ⟨HT2, %d5, %f5, -, H5⟩
  by_cases hb : b = 1#1
  all_goals
    sl_exec (disch := sl_exact hb)
    sl_step
    iapply Hk
    isplitl [HI]; · iexact HI
    isplitl [H4]
    · iexists _; isplitr; · ipureintro; exact harg8.read_unread _
      iexact H4
    isplitl [HT2]; · iexact HT2
    iexists _, _; isplitr; swap; · iexact H5
    ipureintro; rfl

end Cert.KernelIdeal.Pool

end
-- ==== Proof.IdealTables.lean ====
/- The tables the kernel reads, as functions of the segment ids: the first and the last id of every block, and how many rows
   lie below each id. -/
module

public import proofs.«01_k».proof.Proof.IdealBody
public import Idealize.ShloMosaic.Lib.Claim
public import Idealize.ShloMosaic.Lib.ValueIdxCore
public import Idealize.ShloMosaic.Lib.Pointwise.ShapeOpsCore

@[expose] public section

noncomputable section

namespace Cert.KernelIdeal.Pool

open Idealize.ShloMosaic Idealize.ShloMosaic.TcCoe Idealize.ShloMosaic.Tactic Idealize.ShloMosaic.ValueIdx
open Cert.KernelIdeal.Gen

variable {F : FTy → Type} [FloatOps F]
variable (m : (ℓ : Loc nD τ sig) → Buf (Elt F) ℓ)

/-- The segment id of every row. -/
abbrev ids : IVec S131072 32 := m (((0 : Dev nD) : Thread nD τ).loc main_arg4)

theorem tbl0_eq : (tbl m 0 : IVec S32 32) = Host.slice S32 ![0] ![4096] (ids m) slicesBy_S131072_S32_0s4096 := by
  show V m 0 main_v5 = _
  entry_read; rfl
theorem tbl1_eq : (tbl m 1 : IVec S32 32) = Host.slice S32 ![4095] ![4096] (ids m) slicesBy_S131072_S32_4095s4096 := by
  show V m 0 main_v6 = _
  entry_read; rfl

/-- Row `r` of block `i` is row `4096 i + r` of the whole. -/
def row (i : grid0.Coords) (r : Fin 4096) : Fin 131072 :=
  ⟨4096 * (i 0).val + r.val, by have h := (i 0).isLt; have hh : grid0.bound 0 = 32 := by decide
                                omega⟩

/-- The first boundary word is the id of the block's first row. -/
theorem loWord_eq (c : Dev nD) (i : grid0.Coords) : loWord c i (tbl m 0) = ids m (ValueIdx.ix1 (row i 0)) := by
  unfold loWord
  refine (View.readAt_apply (v := tb0.view) _ _ _).trans ?_
  show (tbl m 0 : IVec S32 32) _ = _
  rw [tbl0_eq, Host.slice_apply]
  congr 1
  funext a
  apply Fin.ext
  fin_cases a
  show 0 + 4096 * (k0_off1 i 0 + 1 * 0) = 4096 * (i 0).val + 0
  rw [k0_off1_eq]; show 0 + 4096 * ((i 0).val + 1 * 0) = _
  omega

/-- The last boundary word is the id of the block's last row. -/
theorem hiWord_eq (c : Dev nD) (i : grid0.Coords) : hiWord c i (tbl m 1) = ids m (ValueIdx.ix1 (row i 4095)) := by
  unfold hiWord
  refine (View.readAt_apply (v := tb1.view) _ _ _).trans ?_
  show (tbl m 1 : IVec S32 32) _ = _
  rw [tbl1_eq, Host.slice_apply]
  congr 1
  funext a
  apply Fin.ext
  fin_cases a
  show 4095 + 4096 * (k0_off1 i 0 + 1 * 0) = 4096 * (i 0).val + 4095
  rw [k0_off1_eq]; show 4095 + 4096 * ((i 0).val + 1 * 0) = _
  omega

end Cert.KernelIdeal.Pool

end
-- ==== Proof.IdealFrame.lean ====
/- The run of the pooling kernel's program: whenever every segment id is below 16 it ends, with its arguments as they were. -/
module

public import proofs.«01_k».proof.Proof.IdealTables
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every segment id is below 16. -/
abbrev InRange : Prop := ∀ r, (ids m r).toNat < 16

/-! ## The proof data: the inputs at their blocks, nothing said of the output -/

/-- The output is the only window whose contents are not followed. -/
def forgets0 : Fin 6 → Bool := fun w => w.val == 5

/-- Every input's buffer holds its block at every point; the tables' halves go along unchanged. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfgM m) ⟨5, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl

theorem before0 (c : Dev nD) (t : Fin (cfgM m).N) (d) : (dats m 0 c).before 0 t d = iblk m c 0 t :=
  before_of m (dats m 0 c) 0 (by decide) (A_eq m c 0) (after0 m c) t d
theorem before1 (c : Dev nD) (t : Fin (cfgM m).N) (d) : (dats m 0 c).before 1 t d = iblk m c 1 t :=
  before_of m (dats m 0 c) 1 (by decide) (A_eq m c 1) (after1 m c) t d
theorem before2 (c : Dev nD) (t : Fin (cfgM m).N) (d) : (dats m 0 c).before 2 t d = iblk m c 2 t :=
  before_of m (dats m 0 c) 2 (by decide) (A_eq m c 2) (after2 m c) t d
theorem before3 (c : Dev nD) (t : Fin (cfgM m).N) (d) : (dats m 0 c).before 3 t d = iblk m c 3 t :=
  before_of m (dats m 0 c) 3 (by decide) (A_eq m c 3) (after3 m c) t d
theorem before4 (c : Dev nD) (t : Fin (cfgM m).N) (d) : (dats m 0 c).before 4 t d = iblk m c 4 t :=
  before_of m (dats m 0 c) 4 (by decide) (A_eq m c 4) (after4 m c) t d

/-! ## The body obligation -/

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare d))

/-- What the body returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ (∃ d, owns (c : Thread nD τ) (ms5 m t) fullShare d))

set_option maxHeartbeats 1600000 in
/-- The body at any point: the boundary ids it reads are below 16, so it runs. -/
theorem sound_body (hR : InRange m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = iprop(Pipeline.ΦA spec0 c ∗ Pipeline.ΦT pre0 (tbl m) c) from rfl, PhiT_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  iapply (body_runs c (grid0.coords t) (ms0 m t) _ (ms1 m t) _ (ms2 m t) _ (ms3 m t) _ (ms4 m t) _ (ms5 m t) _
    (iblk m c 0 t) (iblk m c 1 t) (iblk m c 2 t) (iblk m c 3 t) (iblk m c 4 t) (tbl m 0) (tbl m 1) (tbl m 2)
    ((loWord_eq m c (grid0.coords t)).symm ▸ hR _) ((hiWord_eq m c (grid0.coords t)).symm ▸ hR _) Set.univ _)
  unfold Ins Out
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [H4]; · iexact H4
  isplitl [HT2 H5]
  · isplitl [HT2]; · iexact HT2
    iexists _; iexact H5
  iintro ⟨⟨H0, H1, H2, H3, HT0, HT1⟩, H4, HT2, H5⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem body_obligation (hR : InRange m) (c : Dev nD) :
    BodyObligation (dats (F := F) m 0 c) (defs₀ (F := F)) Variants.none () Set.univ forgets0 := fun t => by
  rw [bigSep_W0, bigSep_W0, defs₀_row m]
  exact triple_restated (sound_body m hR c t) rfl .rfl fun _ => .rfl

/-! ## The run -/

set_option backward.isDefEq.respectTransparency.types false in
/-- The program runs to the launch's conclusion, every semaphore counter at zero. -/
theorem run_main (hR : InRange m) : θ_run defs (onTc (τ := τ) (main (F := F))) (s₀ m ρ) (fun r =>
    (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m hR c).loose) (hshare := fun c => (dats m 0 c).share_full fun _ => rfl)
    (howed := fun _ _ => rfl) (V := V m) (hmain := hmain m Variants.none) (hA := A_eq m) (hpf := V_pre m) (hΦ := fun _ _ => rfl)

/-- With every segment id below 16 the program ends with its arguments unchanged and every counter at zero. -/
theorem frame_run (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m (fun c w => A_eq m c w) h.1 c, h.2⟩) (run_main m ρ hR)

end Cert.KernelIdeal.Pool

end
-- ==== Proof.Conditions.lean ====
/- What the range precondition says, element by element: the segment ids lie in 0..15. -/
module

public import proofs.«01_k».proof.Proof.Gen.Pre_ids_in_range
public import Idealize.ShloMosaic.Lib.StableHlo.Predicate

@[expose] public section

noncomputable section

namespace Cert.Pool

open Idealize.ShloMosaic Idealize.ShloMosaic.StableHlo.Predicate

variable {F : FTy → Type} [FloatOps F]

/-- The vector of segment ids. -/
abbrev SIds : Shape := ⟨1, ![131072]⟩

/-- A word that is at least 0 and less than 16, both read signed, is below 16 as a natural number. -/
theorem word_lt_of_signed {w : BitVec 32} (h0 : IntOp.cmpi .sge w 0#32 = 1#1) (h1 : IntOp.cmpi .slt w 16#32 = 1#1) : w.toNat < 16 := by
  simp only [IntOp.cmpi, ofBool_eq_one_iff] at h0 h1
  rw [BitVec.sle_iff_toInt_le] at h0
  rw [BitVec.slt_iff_toInt_lt] at h1
  have e := BitVec.toInt_eq_toNat_cond w
  have h16 : (16#32 : BitVec 32).toInt = 16 := by decide
  have h00 : (0#32 : BitVec 32).toInt = 0 := by decide
  rw [h16] at h1; rw [h00] at h0
  have := w.isLt
  split at e <;> omega

/-- A conjunction of two bits is set exactly when both are. -/
theorem andi_bit {a b : BitVec 1} (h : IntOp.andi a b = 1#1) : a = 1#1 ∧ b = 1#1 := by
  revert a b; decide

/-- The range precondition puts every id below 16. -/
theorem lt_of_ids_in_range {x0 x1 x2 x3} {x4 : IVec SIds 32}
    (h : Cert.Pre_ids_in_range.fn (F := F) x0 x1 x2 x3 x4 = fun _ => 1#1) (r : SIds.Idx) : (x4 r).toNat < 16 := by
  have e := congrFun h r
  obtain ⟨e0, e1⟩ := andi_bit e
  exact word_lt_of_signed e0 e1

end Cert.Pool

end
-- ==== Proof.SortedFinite.lean ====
/- What the stronger precondition says, element by element: the segment ids lie in 0..15 and do not decrease, and the features, the
   positions and the weights are finite. -/
module

public import proofs.«01_k».proof.Proof.Conditions
public import proofs.«01_k».proof.Proof.Gen.Pre_sorted_and_finite
public import Idealize.ShloMosaic.PureOps.Ideal.Laws
public import Idealize.ShloMosaic.Lib.ValueIdxCore

@[expose] public section

noncomputable section

namespace Cert.Pool

open Idealize.ShloMosaic Idealize.ShloMosaic.StableHlo.Predicate

variable {F : FTy → Type} [FloatOps F]

/-- The first part of the stronger precondition puts every id below 16. -/
theorem lt_of_sorted_and_finite {x0 x1 x2 x3} {x4 : IVec SIds 32}
    (h : (Cert.Pre_sorted_and_finite.fn (F := F) x0 x1 x2 x3 x4).1 = fun _ => 1#1) (r : SIds.Idx) : (x4 r).toNat < 16 := by
  have e := congrFun h r
  obtain ⟨e0, e1⟩ := andi_bit e
  exact word_lt_of_signed e0 e1

/-- Its second part: the id of a row is at most the id of the next row. -/
theorem step_of_sorted {x0 x1 x2 x3} {x4 : IVec SIds 32} (hR : ∀ r, (x4 r).toNat < 16)
    (h : (Cert.Pre_sorted_and_finite.fn (F := F) x0 x1 x2 x3 x4).2.1 = fun _ => 1#1) (r : Fin 131072) (hr : r.val + 1 < 131072) :
    (x4 (ValueIdx.ix1 r)).toNat ≤ (x4 (ValueIdx.ix1 ⟨r.val + 1, hr⟩)).toNat := by
  have e := congrFun h (ValueIdx.ix1 (⟨r.val, by omega⟩ : Fin 131071))
  have e' : IntOp.cmpi .sle (x4 (ValueIdx.ix1 r)) (x4 (ValueIdx.ix1 ⟨r.val + 1, hr⟩)) = 1#1 := by
    refine Eq.trans ?_ e
    show _ = IntOp.cmpi .sle (x4 _) (x4 _)
    congr 2
    · funext a; apply Fin.ext; fin_cases a; exact (Nat.zero_add _).symm
    · funext a; apply Fin.ext; fin_cases a; exact Nat.add_comm _ _
  exact (sle_iff_toNat (lt_trans (hR _) (by norm_num)) (lt_trans (hR _) (by norm_num))).mp e'

/-- So the ids do not decrease along the rows. -/
theorem mono_of_sorted {x0 x1 x2 x3} {x4 : IVec SIds 32} (hR : ∀ r, (x4 r).toNat < 16)
    (h : (Cert.Pre_sorted_and_finite.fn (F := F) x0 x1 x2 x3 x4).2.1 = fun _ => 1#1) {r s : Fin 131072} (hrs : r ≤ s) :
    (x4 (ValueIdx.ix1 r)).toNat ≤ (x4 (ValueIdx.ix1 s)).toNat := by
  obtain ⟨r, hr⟩ := r
  obtain ⟨s, hs⟩ := s
  replace hrs : r ≤ s := hrs
  induction s, hrs using Nat.le_induction with
  | base => exact le_rfl
  | succ s hle ih => exact (ih (by omega)).trans (step_of_sorted hR h ⟨s, by omega⟩ hs)

/-- An extended real whose absolute value is below +∞ is a real number. -/
theorem finite_of_abs_lt {x : Ideal .f32} (h : FloatOps.cmpf (F := Ideal) (φ := .f32) .olt (FloatOps.absf x) (FloatOps.ofBits .f32 0x7F800000#32) = 1#1) :
    ∃ y : ℝ, (x : EReal) = (y : EReal) := by
  have htop : Ideal.ofBits .f32 0x7F800000#32 = (⊤ : EReal) := by simp [Ideal.ofBits, Ideal.ieee]
  have h' : max (x : EReal) (-x) < ⊤ := by
    change Ideal.cmp .olt (max (x : EReal) (-x)) (Ideal.ofBits .f32 0x7F800000#32) = 1#1 at h
    rw [htop] at h
    by_contra hn
    simp [Ideal.cmp, hn] at h
  have h1 : (x : EReal) ≠ ⊤ := ne_of_lt (lt_of_le_of_lt (le_max_left _ _) h')
  have h2 : (x : EReal) ≠ ⊥ := fun hb => by
    have := lt_of_le_of_lt (le_max_right _ _) h'
    rw [hb] at this
    simp at this
  exact ⟨EReal.toReal x, (EReal.coe_toReal h1 h2).symm⟩

section Finite
variable {x0 : FVec Ideal ⟨2, ![131072, 61]⟩ .f32} {x1 : FVec Ideal ⟨2, ![131072, 3]⟩ .f32} {x2 : FVec Ideal ⟨2, ![64, 64]⟩ .f32}
  {x3 : FVec Ideal ⟨1, ![64]⟩ .f32} {x4 : IVec SIds 32}

/-- Its third part: every feature is a real number. -/
theorem finite_features (h : (Cert.Pre_sorted_and_finite.fn (F := Ideal) x0 x1 x2 x3 x4).2.2.1 = fun _ => 1#1) (i) :
    ∃ y : ℝ, (x0 i : EReal) = (y : EReal) := finite_of_abs_lt (congrFun h i)
/-- Its fourth part: every position is a real number. -/
theorem finite_positions (h : (Cert.Pre_sorted_and_finite.fn (F := Ideal) x0 x1 x2 x3 x4).2.2.2.1 = fun _ => 1#1) (i) :
    ∃ y : ℝ, (x1 i : EReal) = (y : EReal) := finite_of_abs_lt (congrFun h i)
/-- Its fifth part: every weight is a real number. -/
theorem finite_weights (h : (Cert.Pre_sorted_and_finite.fn (F := Ideal) x0 x1 x2 x3 x4).2.2.2.2 = fun _ => 1#1) (i) :
    ∃ y : ℝ, (x2 i : EReal) = (y : EReal) := finite_of_abs_lt (congrFun h i)
end Finite

end Cert.Pool

end
-- ==== Proof.IdealRows.lean ====
/- Rows of the kernel's output block: what a load of one row reads, what a store of one row leaves; and the inner loop of the
   kernel, which runs once for every segment id strictly between a block's first and its last. -/
module

public import proofs.«01_k».proof.Proof.IdealBody
public import Idealize.ShloMosaic.Lib.Pipeline.ValueKit.Tiles
public import Idealize.ShloMosaic.Lib.ValueIdxCore

@[expose] public section

set_option maxRecDepth 16384

noncomputable section

namespace Cert.KernelIdeal.Pool

open Idealize.ShloMosaic Idealize.ShloMosaic.TcCoe
open Cert.KernelIdeal.Gen

variable {F : FTy → Type} [FloatOps F]

/-! ## Rows of the output -/

/-- Row `s` of the output. -/
def rowOf (s : Fin 16) (d : Vec F S16x64 .f32) : Vec F S1x64 .f32 := fun x => d (ValueIdx.ix2 s (x 1))

/-- The output with row `s` replaced. -/
def setRow (s : Fin 16) (w : Vec F S1x64 .f32) (d : Vec F S16x64 .f32) : Vec F S16x64 .f32 :=
  fun x => if (x 0).val = s.val then w (ValueIdx.ix2 0 (x 1)) else d x

/-- Loading row `s` reads it. -/
theorem ld_row (s : Fin 16) (d : Vec F S16x64 .f32) {off : Fin 2 → ℕ} (h : off = ![s.val, 0]) (inb) :
    View.ld d (Rect.unit (s := S16x64) off S1x64.size inb) = rowOf s d := by
  subst h
  funext x
  refine View.ld_unit_apply_of d _ _ _ x _ fun a => ?_
  fin_cases a
  · show s.val = s.val + (x 0).val
    have h0 : (x 0).val < 1 := (x 0).isLt
    omega
  · show (x 1).val = 0 + (x 1).val
    omega

/-- Loading a whole block reads its contents. -/
theorem load_whole {S : Shape} {sp : Space} {e : EltTy} (M : Memref sig .tc sp S e) (f : M.view.ty.Contents (Elt F)) {off : Fin S.rank → ℕ}
    (h : ∀ a, off a = 0) (inb) : M.view.readAt (Elt F) (Rect.unit (s := S) off S.size inb).toLoadRect f = M.view.read (Elt F) f :=
  (View.readAt_eq_ld ..).trans (View.ld_unit_lit inb _ h)

/-- The same for a load off the output's buffer. -/
theorem load_row (arg9 : Memref sig .tc .vmem S16x64 .f32) (f : arg9.view.ty.Contents (Elt F)) (s : Fin 16) {off : Fin 2 → ℕ} (h : off = ![s.val, 0])
    (inb) : arg9.view.readAt (Elt F) (Rect.unit (s := S16x64) off S1x64.size inb).toLoadRect f = rowOf s (arg9.view.read (Elt F) f) :=
  (View.readAt_eq_ld ..).trans (ld_row s _ h inb)

/-- Storing row `s` replaces it. -/
theorem read_store_row (arg9 : Memref sig .tc .vmem S16x64 .f32) (f : arg9.view.ty.Contents (Elt F)) (s : Fin 16) (w : Vec F S1x64 .f32)
    (L : List (View.Piece (Elt F) S16x64 .f32)) {off : Fin 2 → ℕ} (h : off = ![s.val, 0]) (inb) :
    arg9.view.read (Elt F) (arg9.view.writes (Elt F) f (⟨Rect.unit (s := S16x64) off S1x64.size inb, w⟩ :: L))
      = setRow s w (arg9.view.read (Elt F) (arg9.view.writes (Elt F) f L)) := by
  subst h
  funext x
  unfold setRow
  by_cases hx : (x 0).val = s.val
  · rw [if_pos hx]
    refine View.read_writes_cons_hit_of_coords _ _ _ _ _ _ _ fun a => ?_
    fin_cases a
    · show (x 0).val = s.val + 1 * 0
      omega
    · show (x 1).val = 0 + 1 * (x 1).val
      omega
  · rw [if_neg hx]
    refine View.read_writes_cons_miss_of_axis _ _ _ _ _ 0 s.val 1 rfl rfl rfl ?_
    omega

/-- Storing the whole output replaces it. -/
theorem read_store_whole (arg9 : Memref sig .tc .vmem S16x64 .f32) (f : arg9.view.ty.Contents (Elt F)) (w : Vec F S16x64 .f32)
    (L : List (View.Piece (Elt F) S16x64 .f32)) {off : Fin 2 → ℕ} (h : ∀ a, off a = 0) (inb) :
    arg9.view.read (Elt F) (arg9.view.writes (Elt F) f (⟨Rect.unit (s := S16x64) off S16x64.size inb, w⟩ :: L)) = w := by
  funext x
  refine View.read_writes_cons_hit_of_coords _ _ (Rect.unit (s := S16x64) off S16x64.size inb) w L x x fun a => ?_
  show (x a).val = off a + 1 * (x a).val
  rw [h a]; omega

/-- Row `s` of the output at an index. -/
theorem rowOf_apply (s : Fin 16) (d : Vec F S16x64 .f32) (j : Fin 64) : rowOf s d (ValueIdx.ix2 0 j) = d (ValueIdx.ix2 s j) := rfl

/-- The output with row `s` replaced, at an index. -/
theorem setRow_apply (s : Fin 16) (w : Vec F S1x64 .f32) (d : Vec F S16x64 .f32) (p : Fin 16) (j : Fin 64) :
    setRow s w d (ValueIdx.ix2 p j) = if p = s then w (ValueIdx.ix2 0 j) else d (ValueIdx.ix2 p j) := by
  unfold setRow
  by_cases h : p = s
  · rw [if_pos h]; exact if_pos (congrArg Fin.val h)
  · rw [if_neg h]; exact if_neg fun hh => h (Fin.ext hh)

/-! ## The counts table -/

/-- Entry `k` of the counts table. -/
abbrev cum (c : Dev nD) (t2 : TbBuf (F := F) c tb2) (k : Fin 17) : BitVec 32 := tb2.view.read (Elt F) t2 (ValueIdx.ix1 k)

/-- Loading one word of the table reads its entry. -/
theorem cum_read (c : Dev nD) (t2 : TbBuf (F := F) c tb2) (k : Fin 17) {off : Fin 1 → ℕ} (h : off = ![k.val]) (inb) (x : S1.Idx) :
    tb2.view.readAt (Elt F) (Rect.unit (s := S17) off S1.size inb).toLoadRect t2 x = cum c t2 k := by
  subst h
  rw [View.readAt_eq_ld]
  refine View.ld_unit_apply_of (S := S17) _ ![k.val] S1.size inb x (ValueIdx.ix1 k) fun a => ?_
  fin_cases a
  show k.val = k.val + (x 0).val
  have h0 : (x 0).val < 1 := (x 0).isLt
  omega

/-! ## The index arithmetic, at two segment ids below 16 -/

/-- A word of a number below 16, as a row's offset and as a table's. -/
theorem offs_of_fin : ∀ a : Fin 16, k0_off4 (BitVec.ofNat 32 a.val) = ![a.val, 0] ∧ k0_off5 (BitVec.ofNat 32 a.val) = ![a.val, 0]
    ∧ k0_off2 (BitVec.ofNat 32 a.val) = ![a.succ.val] ∧ k0_off3 (BitVec.ofNat 32 a.val) = ![a.castSucc.val] := by
  decide +kernel

/-- The loop over the ids strictly between: its number of trips, its offsets at each. -/
theorem loop_of_fin : ∀ a b : Fin 16, k0_cond2 (BitVec.ofNat 32 a.val) (BitVec.ofNat 32 b.val) = 1#1 →
    (k0_t1_loop (BitVec.ofNat 32 a.val) (BitVec.ofNat 32 b.val)).trips = b.val - a.val - 1
    ∧ ∀ k, k0_off6 (BitVec.ofNat 32 a.val) (BitVec.ofNat 32 b.val) k = ![a.val + 1 + k.val]
      ∧ k0_off7 (BitVec.ofNat 32 a.val) (BitVec.ofNat 32 b.val) k = ![a.val + 1 + k.val + 1]
      ∧ k0_off8 (BitVec.ofNat 32 a.val) (BitVec.ofNat 32 b.val) k = ![a.val + 1 + k.val, 0] := by
  decide +kernel

/-- Where the kernel does not enter the loop, no id lies strictly between. -/
theorem noloop_of_fin : ∀ a b : Fin 16, ¬ k0_cond2 (BitVec.ofNat 32 a.val) (BitVec.ofNat 32 b.val) = 1#1 → b.val - a.val - 1 = 0 := by
  decide +kernel

end Cert.KernelIdeal.Pool

end
-- ==== Proof.Segments.lean ====
/- Rows with non-decreasing segment ids: counting the rows below an id, and the greatest value over a segment's rows, taken block
   by block. -/
module

public import Mathlib.Data.EReal.Operations
public import Mathlib.Data.Fintype.Basic
public import Mathlib.Order.Interval.Finset.Fin
public import Mathlib.Tactic.Linarith
public import Mathlib.Tactic.Ring
public import Mathlib.Algebra.Order.Monoid.Defs

@[expose] public section

noncomputable section

namespace Cert.Pool

/-- With non-decreasing ids, row `r` lies before the count of the rows whose id is below `k` exactly when its own id is below `k`. -/
theorem lt_count {n : ℕ} (f : Fin n → ℕ) (hf : ∀ {r s : Fin n}, r ≤ s → f r ≤ f s) (k : ℕ) (r : Fin n) :
    r.val < (Finset.univ.filter fun q => f q < k).card ↔ f r < k := by
  constructor
  · intro h
    by_contra hn
    have hsub : (Finset.univ.filter fun q => f q < k) ⊆ Finset.Iio r := fun q hq => by
      rw [Finset.mem_filter] at hq
      rw [Finset.mem_Iio]
      by_contra hr
      exact hn (lt_of_le_of_lt (hf (not_lt.mp hr)) hq.2)
    have := Finset.card_le_card hsub
    rw [Fin.card_Iio] at this
    omega
  · intro h
    have hsub : Finset.Iic r ⊆ (Finset.univ.filter fun q => f q < k) := fun q hq => by
      rw [Finset.mem_Iic] at hq
      exact Finset.mem_filter.mpr ⟨Finset.mem_univ _, lt_of_le_of_lt (hf hq) h⟩
    have := Finset.card_le_card hsub
    rw [Fin.card_Iic] at this
    omega

/-- The greatest value among the first `N` rows of segment `s` (`-∞` when it has none there). -/
def segSup {n : ℕ} (f : Fin n → ℕ) (Z : Fin n → EReal) (N s : ℕ) : EReal :=
  (Finset.univ.filter fun r : Fin n => r.val < N ∧ f r = s).sup Z

theorem segSup_zero {n : ℕ} (f : Fin n → ℕ) (Z : Fin n → EReal) (s : ℕ) : segSup f Z 0 s = ⊥ := by
  unfold segSup
  rw [Finset.filter_false_of_mem (fun r _ => by simp)]
  exact Finset.sup_empty

/-- One more block: the greatest so far, or the greatest among the segment's rows in the block. -/
theorem segSup_succ {n B : ℕ} (f : Fin n → ℕ) (Z : Fin n → EReal) (i s : ℕ) (hi : B * (i + 1) ≤ n) (row : Fin B → Fin n)
    (hrow : ∀ r, (row r).val = B * i + r.val) :
    segSup f Z (B * (i + 1)) s = max (segSup f Z (B * i) s) ((Finset.univ.filter fun r : Fin B => f (row r) = s).sup fun r => Z (row r)) := by
  have hB : B * (i + 1) = B * i + B := by ring
  unfold segSup
  apply le_antisymm
  · refine Finset.sup_le fun r hr => ?_
    obtain ⟨-, h1, h2⟩ := Finset.mem_filter.mp hr
    by_cases h : r.val < B * i
    · exact le_max_of_le_left (Finset.le_sup (f := Z) (Finset.mem_filter.mpr ⟨Finset.mem_univ _, h, h2⟩))
    · have e : row ⟨r.val - B * i, by omega⟩ = r := Fin.ext (by rw [hrow]; show B * i + (r.val - B * i) = r.val; omega)
      refine le_max_of_le_right (le_trans (le_of_eq ?_) (Finset.le_sup (f := fun r => Z (row r))
        (Finset.mem_filter.mpr ⟨Finset.mem_univ (⟨r.val - B * i, by omega⟩ : Fin B), by rw [e]; exact h2⟩)))
      exact (congrArg Z e).symm
  · refine max_le (Finset.sup_mono fun r hr => ?_) (Finset.sup_le fun r hr => ?_)
    · obtain ⟨-, h1, h2⟩ := Finset.mem_filter.mp hr
      exact Finset.mem_filter.mpr ⟨Finset.mem_univ _, by omega, h2⟩
    · obtain ⟨-, h2⟩ := Finset.mem_filter.mp hr
      exact Finset.le_sup (f := Z) (Finset.mem_filter.mpr ⟨Finset.mem_univ _, by rw [hrow]; have := r.isLt; omega, h2⟩)

/-- A segment with no row in the block keeps its greatest value. -/
theorem segSup_succ_of_none {n B : ℕ} (f : Fin n → ℕ) (Z : Fin n → EReal) (i s : ℕ) (hi : B * (i + 1) ≤ n) (row : Fin B → Fin n)
    (hrow : ∀ r, (row r).val = B * i + r.val) (h : ∀ r, f (row r) ≠ s) : segSup f Z (B * (i + 1)) s = segSup f Z (B * i) s := by
  rw [segSup_succ f Z i s hi row hrow, Finset.filter_false_of_mem (fun r _ => h r), Finset.sup_empty, max_bot_right]

/-- Adding a real number and cutting off below zero moves inside the greatest of a segment that has rows, all of them real. -/
theorem sup_finish {ι : Type*} (S : Finset ι) (Z : ι → EReal) (b : EReal) (hZ : ∀ r ∈ S, Z r ≠ ⊥) :
    (if S.sup Z = ⊥ then S.sup Z else max (S.sup Z + b) 0) = S.sup fun r => max (Z r + b) 0 := by
  rcases S.eq_empty_or_nonempty with rfl | hS
  · simp
  · obtain ⟨r, hr, e⟩ := Finset.exists_mem_eq_sup S hS Z
    rw [if_neg (by rw [e]; exact hZ r hr)]
    apply le_antisymm
    · rw [e]; exact Finset.le_sup (f := fun r => max (Z r + b) 0) hr
    · refine Finset.sup_le fun q hq => ?_
      exact max_le_max (add_le_add_left (Finset.le_sup hq) _) le_rfl

end Cert.Pool

end
-- ==== Proof.IdealCounts.lean ====
/- The third table the kernel reads: entry `k` is the number of rows whose segment id is below `k`. With the ids non-decreasing, a
   row lies before that entry exactly when its id is below `k`. -/
module

public import proofs.«01_k».proof.Proof.IdealTables
public import proofs.«01_k».proof.Proof.IdealRows
public import proofs.«01_k».proof.Proof.Segments
public import Idealize.ShloMosaic.Lib.StableHlo.Predicate

@[expose] public section

set_option maxRecDepth 16384

noncomputable section

namespace Cert.KernelIdeal.Pool

open Idealize.ShloMosaic Idealize.ShloMosaic.TcCoe Idealize.ShloMosaic.Tactic Idealize.ShloMosaic.StableHlo.Predicate
open Cert.KernelIdeal.Gen

variable {F : FTy → Type} [FloatOps F]
variable (m : (ℓ : Loc nD τ sig) → Buf (Elt F) ℓ)

/-- The segment id of row `r`, as a number. -/
def sid (r : Fin 131072) : ℕ := (ids m (ValueIdx.ix1 r)).toNat

/-- The bits whose sums are the counts: row `q`'s id is below `k`. -/
def below : IVec S17x131072 1 :=
  cmpi .slt (broadcastInDim S17x131072 ![0, 1] bcast_S1x131072_S17x131072_0_1 (broadcastInDim S1x131072 ![1] bcast_S131072_S1x131072_1 (ids m)))
    (broadcastInDim S17x131072 ![0, 1] bcast_S17x1_S17x131072_0_1 (broadcastInDim S17x1 ![0] bcast_S17_S17x1_0 (iotaInDim S17 32 0)))

theorem tbl2_eq : (tbl m 2 : IVec S17 32)
    = Host.reduce IntOp.addi (extui 32 (below m) natLt_1_32) (constantI S_ 32 0#32) reducesTo_S17x131072_S17_d1 h_S_ := by
  show V m 0 main_v14 = _
  entry_read; rfl

theorem below_iff (hR : ∀ r, (ids m r).toNat < 16) (k : Fin 17) (q : Fin 131072) : below m (ij k q) = 1#1 ↔ sid m q < k.val := by
  have e1 := bcast_cols bcast_S131072_S1x131072_1 bcast_S1x131072_S17x131072_0_1 (ids m) k q
  have e2 := bcast_rows bcast_S17_S17x1_0 bcast_S17x1_S17x131072_0_1 (iotaInDim S17 32 0) k q
  have e : below m (ij k q) = IntOp.cmpi .slt (ids m (ValueIdx.ix1 q)) (BitVec.ofNat 32 k.val) := by
    refine (congrArg₂ (IntOp.cmpi .slt) e1 e2).trans ?_
    have e3 : (Shape.Idx.ofFin q : S131072.Idx) = ValueIdx.ix1 q := by funext a; fin_cases a; rfl
    rw [e3]; rfl
  have hk : (BitVec.ofNat 32 k.val).toNat = k.val := by rw [BitVec.toNat_ofNat, Nat.mod_eq_of_lt (by omega)]
  rw [e, slt_iff_toNat (lt_trans (hR _) (by norm_num)) (by rw [hk]; omega), hk]
  rfl

/-- Entry `k` of the table counts the rows with an id below `k`. -/
theorem cum_toNat (hR : ∀ r, (ids m r).toNat < 16) (c : Dev nD) (k : Fin 17) :
    (cum c (tbl m 2) k).toNat = (Finset.univ.filter fun q => sid m q < k.val).card := by
  have e : cum c (tbl m 2) k = (tbl m 2 : IVec S17 32) (ValueIdx.ix1 k) := rfl
  rw [e, tbl2_eq]
  refine (toNat_reduce_count_cols (by norm_num) (below m) natLt_1_32 _ _ (ValueIdx.ix1 k)).trans ?_
  exact congrArg Finset.card (Finset.filter_congr fun q _ => below_iff m hR k q)

/-- No entry exceeds the number of rows. -/
theorem cum_le (hR : ∀ r, (ids m r).toNat < 16) (c : Dev nD) (k : Fin 17) : (cum c (tbl m 2) k).toNat ≤ 131072 := by
  rw [cum_toNat m hR]
  refine (Finset.card_filter_le _ _).trans (le_of_eq ?_)
  rw [Finset.card_univ, Fintype.card_fin]

/-- Non-decreasing ids, as numbers. -/
abbrev Sorted : Prop := ∀ {r s : Fin 131072}, r ≤ s → sid m r ≤ sid m s

/-- With the ids non-decreasing, a row lies before entry `k` exactly when its id is below `k`. -/
theorem lt_cum (hR : ∀ r, (ids m r).toNat < 16) (hS : Sorted m) (c : Dev nD) (k : Fin 17) (r : Fin 131072) :
    r.val < (cum c (tbl m 2) k).toNat ↔ sid m r < k.val := by
  rw [cum_toNat m hR]; exact Cert.Pool.lt_count (sid m) hS k.val r

end Cert.KernelIdeal.Pool

end
-- ==== Proof.ColumnMax.lean ====
/- The greatest element of a column of a two-axis array of extended reals, and the halving by which a kernel computes it: taking
   elementwise maxima of the upper and the lower half of the rows leaves every column's greatest element as it was. -/
module

public import Idealize.ShloMosaic.PureOps.Ideal.Laws
public import Idealize.ShloMosaic.Lib.ValueIdx
public import Idealize.ShloMosaic.Lib.Pipeline.Value
public import Idealize.ShloMosaic.Lib.Pointwise.Reduce

@[expose] public section

noncomputable section

namespace Cert.Pool

open Idealize.ShloMosaic

/-- The greatest element of column `j`, `-∞` of no rows. -/
def colMax {n w : ℕ} (v : FVec Ideal ⟨2, ![n, w]⟩ .f32) (j : Fin w) : EReal :=
  Finset.univ.sup fun r : Fin n => (v (ValueIdx.ix2 r j) : EReal)

/-- An element of a column is at most the column's greatest. -/
theorem le_colMax {n w : ℕ} (v : FVec Ideal ⟨2, ![n, w]⟩ .f32) (r : Fin n) (j : Fin w) : (v (ValueIdx.ix2 r j) : EReal) ≤ colMax v j :=
  Finset.le_sup (f := fun r : Fin n => (v (ValueIdx.ix2 r j) : EReal)) (Finset.mem_univ r)

/-- Elementwise maxima of two halves have the same column maxima as the whole. -/
theorem colMax_halve {m n w : ℕ} (v : FVec Ideal ⟨2, ![m, w]⟩ .f32)
    (h0 : (⟨2, ![m, w]⟩ : Shape).Slices ![0, 0] ⟨2, ![n, w]⟩) (h1 : (⟨2, ![m, w]⟩ : Shape).Slices ![n, 0] ⟨2, ![n, w]⟩) (hm : m = n + n) (j : Fin w) :
    colMax (maximumf (extractStridedSlice ⟨2, ![n, w]⟩ ![0, 0] v h0) (extractStridedSlice ⟨2, ![n, w]⟩ ![n, 0] v h1)) j = colMax v j := by
  have e : ∀ r : Fin n, (maximumf (extractStridedSlice ⟨2, ![n, w]⟩ ![0, 0] v h0) (extractStridedSlice ⟨2, ![n, w]⟩ ![n, 0] v h1) (ValueIdx.ix2 r j) : EReal)
      = max (v (ValueIdx.ix2 ⟨r.val, by omega⟩ j) : EReal) (v (ValueIdx.ix2 ⟨n + r.val, by omega⟩ j)) := fun r => by
    show max (extractStridedSlice ⟨2, ![n, w]⟩ ![0, 0] v h0 (ValueIdx.ix2 r j) : EReal) (extractStridedSlice ⟨2, ![n, w]⟩ ![n, 0] v h1 (ValueIdx.ix2 r j)) = _
    rw [extractStridedSlice_apply _ v h0 _ (ValueIdx.ix2 ⟨r.val, by omega⟩ j) (fun a => by
        fin_cases a
        · exact (Nat.zero_add _).symm
        · exact (Nat.zero_add _).symm),
      extractStridedSlice_apply _ v h1 _ (ValueIdx.ix2 ⟨n + r.val, by omega⟩ j) (fun a => by
        fin_cases a
        · rfl
        · exact (Nat.zero_add _).symm)]
  apply le_antisymm
  · refine Finset.sup_le fun r _ => ?_
    rw [e]
    exact max_le (le_colMax v _ j) (le_colMax v _ j)
  · refine Finset.sup_le fun r _ => ?_
    by_cases hr : r.val < n
    · refine le_trans ?_ (le_colMax _ ⟨r.val, hr⟩ j)
      rw [e]; exact le_max_left _ _
    · refine le_trans ?_ (le_colMax _ ⟨r.val - n, by omega⟩ j)
      rw [e]
      refine le_trans (le_of_eq ?_) (le_max_right _ _)
      congr 2
      apply Fin.ext; show r.val = n + (r.val - n); omega

/-- The greatest element of a column whose rows outside `p` are `-∞` is the greatest over the rows of `p`. -/
theorem colMax_masked {n w : ℕ} (v : FVec Ideal ⟨2, ![n, w]⟩ .f32) (j : Fin w) (p : Fin n → Prop) [DecidablePred p] (z : Fin n → EReal)
    (h : ∀ r, (v (ValueIdx.ix2 r j) : EReal) = if p r then z r else ⊥) : colMax v j = (Finset.univ.filter p).sup z := by
  unfold colMax
  rw [Finset.sup_congr rfl fun r _ => h r, Finset.sup_ite, Finset.sup_bot, sup_bot_eq]

/-- The word of `-∞`. -/
theorem ofBits_negInf : Ideal.ofBits .f32 0xFF800000#32 = ⊥ := by simp [Ideal.ofBits, Ideal.ieee]

/-- A fold of maxima from `-∞` is a supremum. -/
theorem fold_eq_sup {ι : Type} (s : Finset ι) (f : ι → Ideal .f32) :
    s.fold (FloatOps.maximumf (F := Ideal) (φ := .f32)) (FloatOps.ofBits (F := Ideal) .f32 0xFF800000#32) f = (s.sup fun i => (f i : EReal) : EReal) := by
  have hb : (FloatOps.ofBits .f32 0xFF800000#32 : Ideal .f32) = (⊥ : EReal) := ofBits_negInf
  rw [hb]; rfl

/-- The kernel's reduction of a column by maxima from `-∞` is its greatest element. -/
theorem reduce_colMax {n w : ℕ} {t : Shape} (v : FVec Ideal ⟨2, ![n, w]⟩ .f32) (h : (⟨2, ![n, w]⟩ : Shape).Reduces [0] t)
    (hφ : FKind.Formats .f32) (hacc : 0xFF800000#32 = FKind.maximumf.neutral .f32 hφ) (i : t.Idx) (j : Fin w)
    (hj : (i ⟨0, h.lt_r2_a0_0⟩).val = j.val) :
    (multiReduction .maximumf [0] t v 0xFF800000#32 h hφ hacc i : EReal) = colMax v j := by
  rw [multiReduction_maximumf_eq_fold, Shape.Reduces.fold_fiber_r2_a0]
  rw [fold_eq_sup]
  have hx : (⟨(i ⟨0, h.lt_r2_a0_0⟩).val, Shape.coordLt (i ⟨0, h.lt_r2_a0_0⟩) h.size_r2_a0_0⟩ : Fin w) = j := Fin.ext hj
  rw [hx]
  rfl

end Cert.Pool

end
-- ==== Proof.IdealExact.lean ====
/- What the kernel's body leaves in its output block at one grid point, exactly, as a function of what it finds there, of its
   input blocks and of its tables. -/
module

public import proofs.«01_k».proof.Proof.IdealRows

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The updates of one point -/

/-- The output after the rows of the block's first and last segment have been updated. -/
def edges (lo hi : Fin 16) (v38 v39 : FVec F S2048x128 .f32) (d : Vec F S16x64 .f32) : Vec F S16x64 .f32 :=
  setRow hi (k0_pay9 v38 v39 (rowOf hi (setRow lo (k0_pay8 v38 v39 (rowOf lo d)) d))) (setRow lo (k0_pay8 v38 v39 (rowOf lo d)) d)

/-- The output after the row of a segment strictly between has been updated. -/
def inner (c : Dev nD) (t2 : TbBuf (F := F) c tb2) (v0 : BitVec 32) (v12 : FVec F S4096x64 .f32) (v17 : IVec S4096x1 32) (s : Fin 16)
    (d : Vec F S16x64 .f32) : Vec F S16x64 .f32 :=
  setRow s (k0_pay10 v0 v12 v17 (cum c t2 s.castSucc) (cum c t2 s.succ) (rowOf s d)) d

/-- The kernel's test for the last grid point. -/
abbrev lastBit (a0 : BitVec 32) : BitVec 1 := Scalar.cmpi .ne (Scalar.extui (Scalar.cmpi .eq a0 31#32)) 0#32

/-- The kernel's test for the first grid point. -/
abbrev firstBit (i : grid0.Coords) : BitVec 1 := Scalar.cmpi .ne (Scalar.extui (Scalar.cmpi .eq (BitVec.ofNat 32 (i 0).val) 0#32)) 0#32

/-- The output as the body's updates find it: cleared at the first point. -/
def start (i : grid0.Coords) (d : Vec F S16x64 .f32) : Vec F S16x64 .f32 := if firstBit i = 1#1 then k0_pay2 else d

/-- The number of the block's first row. -/
abbrev base (i : grid0.Coords) : BitVec 32 := Scalar.muli (BitVec.ofNat 32 (i 0).val) 4096#32

/-- The number of each row within its block. -/
abbrev rowNo : IVec S4096x1 32 := iota .tc S4096x1 32 [0] iota_S4096x1_d0_w32

/-- The output as the point leaves it: finished with the bias at the last point. -/
def finish (i : grid0.Coords) (x4 : Vec F S1x64 .f32) (d : Vec F S16x64 .f32) : Vec F S16x64 .f32 :=
  if lastBit (BitVec.ofNat 32 (i 0).val) = 1#1 then k0_pay1 d x4 else d

/-- Where the block's first segment ends, and where its last one starts, as the kernel reads them off the counts table. -/
abbrev cutLo (c : Dev nD) (t2 : TbBuf (F := F) c tb2) {v14 : BitVec 32} (hw1 : k0_chk1 v14) : Elt F .i32 :=
  tb2.view.readAt (Elt F) (Rect.unit (s := S17) (k0_off2 v14) S1.size (k0_off2_inb v14 hw1)).toLoadRect t2 (Shape.Idx.first (numel1_S1.symm ▸ Nat.one_pos))
abbrev cutHi (c : Dev nD) (t2 : TbBuf (F := F) c tb2) {v14 v16 : BitVec 32} (hw2 : k0_chk2 v14 v16) : Elt F .i32 :=
  tb2.view.readAt (Elt F) (Rect.unit (s := S17) (k0_off3 v16) S1.size (k0_off3_inb v14 v16 hw2)).toLoadRect t2 (Shape.Idx.first (numel1_S1.symm ▸ Nat.one_pos))

theorem cutLo_eq (c : Dev nD) (t2 : TbBuf (F := F) c tb2) {v14 : BitVec 32} (hw1 : k0_chk1 v14) (lo : Fin 16) (h : v14 = BitVec.ofNat 32 lo.val) :
    cutLo c t2 hw1 = cum c t2 lo.succ :=
  cum_read c t2 lo.succ (h ▸ (offs_of_fin lo).2.2.1) _ _
theorem cutHi_eq (c : Dev nD) (t2 : TbBuf (F := F) c tb2) {v14 v16 : BitVec 32} (hw2 : k0_chk2 v14 v16) (hi : Fin 16)
    (h : v16 = BitVec.ofNat 32 hi.val) : cutHi c t2 hw2 = cum c t2 hi.castSucc :=
  cum_read c t2 hi.castSucc (h ▸ (offs_of_fin hi).2.2.2) _ _

/-- What the later half of the body holds: the counts table, and the output at named contents. -/
abbrev OutAt (c : Dev nD) (arg9 : Memref sig .tc .vmem S16x64 .f32) (t2 : TbBuf (F := F) c tb2) (d : Vec F S16x64 .f32) : sProp 𝕄 :=
  iprop(tbPt c tb2 t2 ∗ owns (c : Thread nD τ) arg9 fullShare d)

set_option maxHeartbeats 4000000 in
/-- The later half of the body. `g` names the output along the inner loop: it starts from the two edge updates and each trip
    makes one inner update; the output is left at its last value. -/
theorem part2_exact (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (t2 : TbBuf (F := F) c tb2) (a0 v0 : BitVec 32) (v12 : FVec F S4096x64 .f32) (lo hi : Fin 16)
    (v14 v16 : BitVec 32) (h14 : v14 = BitVec.ofNat 32 lo.val) (h16 : v16 = BitVec.ofNat 32 hi.val) (hw1 : k0_chk1 v14) (hw2 : k0_chk2 v14 v16)
    (v17 : IVec S4096x1 32) (v38 v39 : FVec F S2048x128 .f32) (d : Vec F S16x64 .f32) (g : ℕ → Vec F S16x64 .f32)
    (hg0 : g 0 = edges lo hi v38 v39 d)
    (hgs : ∀ (k : ℕ) (s : Fin 16), s.val = lo.val + 1 + k → s.val < hi.val → g (k + 1) = inner c t2 v0 v12 v17 s (g k))
    (E : Set ℕ) (K : BitVec 1 → sProp 𝕄) :
    iprop(OutAt c arg9 t2 d ∗ (OutAt c arg9 t2 (g (hi.val - lo.val - 1)) -∗ K (lastBit a0)))
      ⊢ wp frame (wpE (defs₀ (F := F)) Variants.none c none) E
          (k0_part2 i tb0 (Memref.isWhole_whole _) tb1 (Memref.isWhole_whole _) tb2 (Memref.isWhole_whole _) arg4 harg4 arg5 harg5 arg6 harg6 arg7 harg7 arg8 harg8 arg9 harg9
            a0 v0 v12 v14 hw1 v16 hw2 v17 v38 v39) K := by
  have hoff4 : k0_off4 v14 = _ := h14 ▸ (offs_of_fin lo).1
  have hoff5 : k0_off5 v16 = _ := h16 ▸ (offs_of_fin hi).2.1
  have hloop := loop_of_fin lo hi
  have hno := noloop_of_fin lo hi
  have ht2 := t2_trips_of_fin lo hi
  rw [← h14, ← h16] at hloop hno ht2
  simp only [k0_part2_eq_skeleton]; unfold k0_part2_skel
  unfold OutAt owns
  iintro ⟨⟨HT, %f, %hf, H⟩, Hk⟩
  by_cases h2 : k0_cond2 v14 v16 = 1#1
  · obtain ⟨htr, hoffs⟩ := hloop h2
    sl_exec (disch := sl_exact h2)
    sl_for (fun k _ => OutAt c arg9 t2 (g k)) $$ [HT H]
    case region =>
      intro k acc
      obtain ⟨h6, h7, h8⟩ := hoffs k
      have hk : k.val < hi.val - lo.val - 1 := htr ▸ k.isLt
      have hs := hgs k.val ⟨lo.val + 1 + k.val, by have := hi.isLt; omega⟩ rfl (by show lo.val + 1 + k.val < _; omega)
      unfold OutAt owns
      iintro ⟨HT, %f, %hf, H⟩
      sl_exec
      sl_step
      sl_unfold_run_names
      isplitl [HT]; · iexact HT
      iexists _; isplitr; swap; · iexact H
      ipureintro
      rw [hs, inner, read_store_row arg9 _ ⟨lo.val + 1 + k.val, by have := hi.isLt; omega⟩ _ _ h8, View.writes_nil,
        load_row arg9 _ ⟨lo.val + 1 + k.val, by have := hi.isLt; omega⟩ h8, hf]
      rw [cum_read c t2 (Fin.castSucc ⟨lo.val + 1 + k.val, by have := hi.isLt; omega⟩) h6,
        cum_read c t2 (Fin.succ ⟨lo.val + 1 + k.val, by have := hi.isLt; omega⟩) h7]
    · unfold OutAt owns; isplitl [HT]; · iexact HT
      sl_unfold_run_names
      iexists _; isplitr; swap; · iexact H
      ipureintro
      rw [hg0, edges, read_store_row arg9 _ hi _ _ hoff5, load_row arg9 _ hi hoff5, read_store_row arg9 _ lo _ _ hoff4,
        load_row arg9 _ lo hoff4, View.writes_nil, hf]
    iintro %acc HO
    sl_exec
    sl_for0 (ht2 h2)
    sl_exec
    sl_step
    sl_unfold_run_names
    iapply Hk
    rw [show hi.val - lo.val - 1 = (k0_t1_loop v14 v16).trips from htr.symm]
    iexact HO
  · sl_exec (disch := sl_exact h2)
    sl_step
    sl_unfold_run_names
    iapply Hk
    rw [hno h2]
    isplitl [HT]; · iexact HT
    iexists _; isplitr; swap; · iexact H
    ipureintro
    rw [hg0, edges, read_store_row arg9 _ hi _ _ hoff5, load_row arg9 _ hi hoff5, read_store_row arg9 _ lo _ _ hoff4,
      load_row arg9 _ lo hoff4, View.writes_nil, hf]

set_option maxHeartbeats 4000000 in
/-- The earlier half of the body, exactly: at the first point the output is cleared; the values handed on are named. -/
theorem part1_exact (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (x0 : Vec F S4096x61 .f32) (x1 : Vec F S4096x3 .f32) (x2 : Vec F S61x64 .f32) (x3 : Vec F S3x64 .f32)
    (t0 : TbBuf (F := F) c tb0) (t1 : TbBuf (F := F) c tb1) (t2 : TbBuf (F := F) c tb2)
    (hw1 : k0_chk1 (loWord c i t0)) (hw2 : k0_chk2 (loWord c i t0) (hiWord c i t1)) (d : Vec F S16x64 .f32) (E : Set ℕ)
    (K : (Σ' (arg0 : BitVec 32) (v0 : BitVec 32) (v12 : FVec F S4096x64 .f32) (v14 : Elt F .i32) (k0_hw1 : k0_chk1 v14) (v16 : Elt F .i32) (k0_hw2 : k0_chk2 v14 v16) (v17 : IVec S4096x1 32) (v38 : FVec F S2048x128 .f32), FVec F S2048x128 .f32) → sProp 𝕄) :
    iprop(Ins c arg4 arg5 arg6 arg7 x0 x1 x2 x3 t0 t1 ∗ OutAt c arg9 t2 d
        ∗ (∀ a0 v0 v12 v17 v38 v39, ⌜a0 = BitVec.ofNat 32 (i 0).val ∧ v0 = base i ∧ v12 = k0_pay3 x0 x2 x1 x3 ∧ v17 = rowNo
                ∧ v38 = k0_pay5 i x0 x2 x1 x3 (cutLo c t2 hw1) (cutHi c t2 hw2) ∧ v39 = k0_pay6 i x0 x2 x1 x3 (cutLo c t2 hw1) (cutHi c t2 hw2)⌝
            ∗ Ins c arg4 arg5 arg6 arg7 x0 x1 x2 x3 t0 t1 ∗ OutAt c arg9 t2 (start i d)
            -∗ K ⟨a0, v0, v12, loWord c i t0, hw1, hiWord c i t1, hw2, v17, v38, v39⟩))
      ⊢ wp frame (wpE (defs₀ (F := F)) Variants.none c none) E
          (k0_part1 i tb0 (Memref.isWhole_whole _) tb1 (Memref.isWhole_whole _) tb2 (Memref.isWhole_whole _) arg4 harg4 arg5 harg5 arg6 harg6 arg7 harg7 arg8 harg8 arg9 harg9) K := by
  simp only [k0_part1_eq_skeleton]; unfold k0_part1_skel
  unfold Ins OutAt owns
  iintro ⟨⟨⟨%f0, %hf0, H0⟩, ⟨%f1, %hf1, H1⟩, ⟨%f2, %hf2, H2⟩, ⟨%f3, %hf3, H3⟩, HT0, HT1⟩, ⟨HT2, %f5, %hf5, H5⟩, Hk⟩
  have e0 := (load_whole arg4 f0 (off := ![0, 0]) (by decide) inb_S4096x61_S4096x61_0_0).trans hf0
  have e1 := (load_whole arg5 f1 (off := ![0, 0]) (by decide) inb_S4096x3_S4096x3_0_0).trans hf1
  have e2 := (load_whole arg6 f2 (off := ![0, 0]) (by decide) inb_S61x64_S61x64_0_0).trans hf2
  have e3 := (load_whole arg7 f3 (off := ![0, 0]) (by decide) inb_S3x64_S3x64_0_0).trans hf3
  by_cases hi0 : firstBit i = 1#1
  all_goals
    sl_exec (disch := first | sl_exact hw1 | sl_exact hw2 | sl_exact hi0)
    sl_step
    sl_unfold_run_names
    iapply Hk
    isplitr; · ipureintro; rw [← e0, ← e1, ← e2, ← e3]; exact ⟨rfl, rfl, rfl, rfl, rfl, rfl⟩
    isplitl [H0 H1 H2 H3 HT0 HT1]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [HT0]; · iexact HT0
      iexact HT1
    isplitl [HT2]; · iexact HT2
    iexists _; isplitr; swap; · iexact H5
    ipureintro
    first
      | rw [start, if_pos hi0, read_store_whole arg9 _ _ _ (by decide)]
      | rw [start, if_neg hi0, hf5]

set_option maxHeartbeats 4000000 in
/-- The body at any point, exactly. `g` names the output along the inner loop, as in the later half; at the last point the kernel
    finishes the output with the bias. -/
theorem body_exact (c : Dev nD) (i : grid0.Coords)
    (arg4 : Memref sig .tc .vmem S4096x61 .f32) (harg4 : arg4.IsWhole) (arg5 : Memref sig .tc .vmem S4096x3 .f32) (harg5 : arg5.IsWhole)
    (arg6 : Memref sig .tc .vmem S61x64 .f32) (harg6 : arg6.IsWhole) (arg7 : Memref sig .tc .vmem S3x64 .f32) (harg7 : arg7.IsWhole)
    (arg8 : Memref sig .tc .vmem S1x64 .f32) (harg8 : arg8.IsWhole) (arg9 : Memref sig .tc .vmem S16x64 .f32) (harg9 : arg9.IsWhole)
    (x0 : Vec F S4096x61 .f32) (x1 : Vec F S4096x3 .f32) (x2 : Vec F S61x64 .f32) (x3 : Vec F S3x64 .f32) (x4 : Vec F S1x64 .f32)
    (t0 : TbBuf (F := F) c tb0) (t1 : TbBuf (F := F) c tb1) (t2 : TbBuf (F := F) c tb2) (lo hi : Fin 16)
    (h14 : loWord c i t0 = BitVec.ofNat 32 lo.val) (h16 : hiWord c i t1 = BitVec.ofNat 32 hi.val)
    (d : Vec F S16x64 .f32) (g : ℕ → Vec F S16x64 .f32)
    (hg0 : g 0 = edges lo hi (k0_pay5 i x0 x2 x1 x3 (cum c t2 lo.succ) (cum c t2 hi.castSucc))
      (k0_pay6 i x0 x2 x1 x3 (cum c t2 lo.succ) (cum c t2 hi.castSucc)) (start i d))
    (hgs : ∀ (k : ℕ) (s : Fin 16), s.val = lo.val + 1 + k → s.val < hi.val →
      g (k + 1) = inner c t2 (base i) (k0_pay3 x0 x2 x1 x3) rowNo s (g k))
    (E : Set ℕ) (K : PUnit → sProp 𝕄) :
    iprop(Ins c arg4 arg5 arg6 arg7 x0 x1 x2 x3 t0 t1 ∗ owns (c : Thread nD τ) arg8 fullShare x4 ∗ OutAt c arg9 t2 d
        ∗ (Ins c arg4 arg5 arg6 arg7 x0 x1 x2 x3 t0 t1 ∗ owns (c : Thread nD τ) arg8 fullShare x4
            ∗ OutAt c arg9 t2 (finish i x4 (g (hi.val - lo.val - 1))) -∗ K ⟨⟩))
      ⊢ wp frame (wpE (defs₀ (F := F)) Variants.none c none) E
          (cc0__pool_kernel i tb0 (Memref.isWhole_whole _) tb1 (Memref.isWhole_whole _) tb2 (Memref.isWhole_whole _) arg4 harg4 arg5 harg5 arg6 harg6 arg7 harg7 arg8 harg8 arg9 harg9) K := by
  have hw1 : k0_chk1 (loWord c i t0) := h14 ▸ (checks_of_fin lo hi).1
  have hw2 : k0_chk2 (loWord c i t0) (hiWord c i t1) := h14 ▸ h16 ▸ (checks_of_fin lo hi).2
  simp only [cc0__pool_kernel_eq_skeleton]; unfold cc0__pool_kernel_skel
  rw [wp_bind]
  iintro ⟨HI, H4, HO, Hk⟩
  iapply part1_exact c i arg4 harg4 arg5 harg5 arg6 harg6 arg7 harg7 arg8 harg8 arg9 harg9 x0 x1 x2 x3 t0 t1 t2 hw1 hw2 d
  isplitl [HI]; · iexact HI
  isplitl [HO]; · iexact HO
  iintro %a0 %v0 %v12 %v17 %v38 %v39 ⟨%hv, HI, HO⟩
  obtain ⟨rfl, rfl, rfl, rfl, rfl, rfl⟩ := hv
  dsimp only
  irw [wp_bind]
  iapply part2_exact c i arg4 harg4 arg5 harg5 arg6 harg6 arg7 harg7 arg8 harg8 arg9 harg9 t2 _ _ _ lo hi (loWord c i t0) (hiWord c i t1) h14 h16 hw1 hw2
    _ _ _ (start i d) g (by rw [cutLo_eq c t2 hw1 lo h14, cutHi_eq c t2 hw2 hi h16]; exact hg0) hgs
  isplitl [HO]; · iexact HO
  iintro HO
  unfold OutAt owns
  icases H4 with ⟨%f4, %hf4, H4⟩
  icases HO with ⟨HT2, %f5, %hf5, H5⟩
  have e4 : arg8.view.readAt (Elt F) (Rect.unit (s := S1x64) ![0, 0] S1x64.size inb_S1x64_S1x64_0_0).toLoadRect f4 = x4 :=
    (load_whole arg8 f4 (by decide) _).trans hf4
  have e5 : arg9.view.readAt (Elt F) (Rect.unit (s := S16x64) ![0, 0] S16x64.size inb_S16x64_S16x64_0_0).toLoadRect f5 = _ :=
    (load_whole arg9 f5 (by decide) _).trans hf5
  by_cases hb : lastBit (BitVec.ofNat 32 (i 0).val) = 1#1
  all_goals
    sl_exec (disch := sl_exact hb)
    sl_step
    sl_unfold_run_names
    iapply Hk
    isplitl [HI]; · iexact HI
    isplitl [H4]
    · iexists _; isplitr; · ipureintro; exact hf4
      iexact H4
    isplitl [HT2]; · iexact HT2
    iexists _; isplitr; swap; · iexact H5
    ipureintro
    first
      | rw [finish, if_neg hb, hf5]
      | rw [finish, if_pos hb, read_store_whole arg9 _ _ _ (by decide)]

end Cert.KernelIdeal.Pool

end
-- ==== Proof.IdealPay.lean ====
/- The kernel's vector arithmetic at an index, over the extended reals: the tree of maxima is a column's greatest element, the
   masked selections pick the rows of one segment, and the finishing step adds the bias and cuts off below zero. -/
module

public import proofs.«01_k».proof.Proof.ColumnMax
public import proofs.«01_k».proof.Proof.IdealExact
public import Idealize.ShloMosaic.Lib.MatmulPlain

@[expose] public section

set_option maxRecDepth 16384

noncomputable section

namespace Cert.KernelIdeal.Pool

open Idealize.ShloMosaic Cert.KernelIdeal.Gen Cert.Pool

/-! ## The tree of maxima -/

/-- The tree of maxima over the two halves of an array is each column's greatest element. -/
theorem pay7_apply (v : FVec Ideal S4096x128 .f32) (j : Fin 128) :
    (k0_pay7 (extractStridedSlice S2048x128 ![0, 0] v slices_S4096x128_o0_0_S2048x128)
      (extractStridedSlice S2048x128 ![2048, 0] v slices_S4096x128_o2048_0_S2048x128) (ValueIdx.ix2 0 j) : EReal) = colMax v j := by
  unfold k0_pay7
  dsimp only
  refine (shapeCast_apply _ _ _ (ValueIdx.ix1 j) (by rw [Shape.rowMajor_val_one, Shape.rowMajor_val_two]; show j.val = 0 * 128 + j.val; omega)).trans ?_
  refine (reduce_colMax _ _ _ _ _ j rfl).trans ?_
  iterate 9 refine (colMax_halve _ _ _ (by decide) _).trans ?_
  rfl

/-! ## The masks -/

/-- The kernel's comparison of a row's number with a bound counted from the block's start, both small. -/
theorem slt_sub {r b c : ℕ} (hr : r < 4096) (hb : b ≤ 131072) (hc : c ≤ 131072) :
    (BitVec.ofNat 32 r).slt (BitVec.ofNat 32 c - BitVec.ofNat 32 b) = decide (b + r < c) := by
  have h1 : (BitVec.ofNat 32 r).toInt = r := by
    rw [BitVec.toInt_eq_toNat_cond, BitVec.toNat_ofNat, Nat.mod_eq_of_lt (by omega), if_pos (by omega)]
  have h2 : (BitVec.ofNat 32 c - BitVec.ofNat 32 b).toInt = (c : ℤ) - b := by
    rw [BitVec.toInt_eq_toNat_cond, BitVec.toNat_sub, BitVec.toNat_ofNat, BitVec.toNat_ofNat]
    split <;> omega
  rw [BitVec.slt, h1, h2]
  exact decide_eq_decide.mpr (by omega)

/-- The opposite comparison. -/
theorem sle_sub {r b c : ℕ} (hr : r < 4096) (hb : b ≤ 131072) (hc : c ≤ 131072) :
    (BitVec.ofNat 32 c - BitVec.ofNat 32 b).sle (BitVec.ofNat 32 r) = decide (¬ b + r < c) := by
  rw [BitVec.sle_eq_not_slt, slt_sub hr hb hc, decide_not]

/-- The word of a block's first row number. -/
theorem base_eq (i : grid0.Coords) : base i = BitVec.ofNat 32 (4096 * (i 0).val) := by
  unfold base
  show BitVec.ofNat 32 (i 0).val * BitVec.ofNat 32 4096 = _
  rw [← BitVec.ofNat_mul, Nat.mul_comm]

theorem coord_lt (i : grid0.Coords) : (i 0).val < 32 := by
  have h := (i 0).isLt; have hh : grid0.bound 0 = 32 := by decide
  omega

/-- A selection on a decided bit. -/
theorem select_decide {α : Type} (p : Prop) [Decidable p] (a b : α) : Scalar.select (BitVec.ofBool (decide p)) a b = if p then a else b := by
  by_cases h : p <;> simp [h, Scalar.select]

/-- A row's number, as the kernel counts it. -/
theorem rowNo_apply (r : Fin 4096) : rowNo (ValueIdx.ix2 r 0) = BitVec.ofNat 32 r.val := by
  show BitVec.ofNat 32 (0 * 4096 + r.val) = _
  rw [Nat.zero_mul, Nat.zero_add]

/-- The comparisons of a row's number with the bound `w` counted from the block's start. -/
theorem mask_lt (i : grid0.Coords) (w : BitVec 32) (hw : w.toNat ≤ 131072) (r : Fin 4096) :
    cmpi .slt rowNo (broadcast S4096x1 (Scalar.subi w (base i))) (ValueIdx.ix2 r 0)
      = BitVec.ofBool (decide (4096 * (i 0).val + r.val < w.toNat)) := by
  show BitVec.ofBool ((rowNo (ValueIdx.ix2 r 0)).slt (w - base i)) = _
  rw [rowNo_apply, base_eq, ← slt_sub r.isLt (by have := coord_lt i; omega) hw, BitVec.ofNat_toNat, BitVec.setWidth_eq]
theorem mask_ge (i : grid0.Coords) (w : BitVec 32) (hw : w.toNat ≤ 131072) (r : Fin 4096) :
    cmpi .sge rowNo (broadcast S4096x1 (Scalar.subi w (base i))) (ValueIdx.ix2 r 0)
      = BitVec.ofBool (decide (¬ 4096 * (i 0).val + r.val < w.toNat)) := by
  show BitVec.ofBool ((w - base i).sle (rowNo (ValueIdx.ix2 r 0))) = _
  rw [rowNo_apply, base_eq, ← sle_sub r.isLt (by have := coord_lt i; omega) hw, BitVec.ofNat_toNat, BitVec.setWidth_eq]

/-- A column of bits spread over the 64 features and used to select: the array where the bit is set, `-∞` elsewhere. -/
theorem select_rows (q : IVec S4096x1 1) (v : FVec Ideal S4096x64 .f32) (r : Fin 4096) (j : Fin 64) (p : Prop) [Decidable p]
    (hq : q (ValueIdx.ix2 r 0) = BitVec.ofBool (decide p)) :
    (select (broadcastTo S4096x64 (shapeCast S4096x1 q shapeCasts_S4096x1_S4096x1) broadcasts_S4096x1_S4096x64) v
      (broadcast S4096x64 (Scalar.ofBits (F := Ideal) .f32 0xFF800000#32)) (ValueIdx.ix2 r j) : EReal)
      = if p then (v (ValueIdx.ix2 r j) : EReal) else ⊥ := by
  show Scalar.select (broadcastTo S4096x64 (shapeCast S4096x1 q shapeCasts_S4096x1_S4096x1) broadcasts_S4096x1_S4096x64 (ValueIdx.ix2 r j)) (v (ValueIdx.ix2 r j) : EReal)
    (FloatOps.ofBits (F := Ideal) .f32 0xFF800000#32) = _
  rw [shapeCast_self, broadcastTo_apply q _ _ (ValueIdx.ix2 r 0) (fun a => by fin_cases a <;> first | (left; rfl) | (right; rfl) | rfl | simp),
    hq, select_decide]
  exact congrArg (fun x : EReal => if p then (v (ValueIdx.ix2 r j) : EReal) else x) ofBits_negInf

/-- The greatest value, feature `j`, among a block's rows for which `p` holds (`-∞` when there is none). -/
def rowsMax (z : FVec Ideal S4096x64 .f32) (j : Fin 64) (p : Fin 4096 → Prop) [DecidablePred p] : EReal :=
  (Finset.univ.filter p).sup fun r => (z (ValueIdx.ix2 r j) : EReal)

/-- The left half of the two masked copies keeps the rows before `v20`. -/
theorem pay4_left (i : grid0.Coords) (x0 : Vec Ideal S4096x61 .f32) (x2 : Vec Ideal S61x64 .f32) (x1 : Vec Ideal S4096x3 .f32) (x3 : Vec Ideal S3x64 .f32)
    (v20 v23 : BitVec 32) (h : v20.toNat ≤ 131072) (r : Fin 4096) (j : Fin 64) :
    (k0_pay4 i x0 x2 x1 x3 v20 v23 (ValueIdx.ix2 r ⟨j.val, by omega⟩) : EReal)
      = if 4096 * (i 0).val + r.val < v20.toNat then (k0_pay3 x0 x2 x1 x3 (ValueIdx.ix2 r j) : EReal) else ⊥ := by
  unfold k0_pay4
  dsimp only
  refine (concatenate_pair_apply_left (t := S4096x128) (s₁ := S4096x64) (s₂ := S4096x64) 1 _ _ _ (ValueIdx.ix2 r ⟨j.val, by omega⟩) rfl (ValueIdx.ix2 r j) (fun b => by fin_cases b <;> rfl)).trans ?_
  exact select_rows _ _ r j _ (mask_lt i v20 h r)
/-- The right half keeps the rows from `v23` on. -/
theorem pay4_right (i : grid0.Coords) (x0 : Vec Ideal S4096x61 .f32) (x2 : Vec Ideal S61x64 .f32) (x1 : Vec Ideal S4096x3 .f32) (x3 : Vec Ideal S3x64 .f32)
    (v20 v23 : BitVec 32) (h : v23.toNat ≤ 131072) (r : Fin 4096) (j : Fin 64) :
    (k0_pay4 i x0 x2 x1 x3 v20 v23 (ValueIdx.ix2 r ⟨64 + j.val, by omega⟩) : EReal)
      = if ¬ 4096 * (i 0).val + r.val < v23.toNat then (k0_pay3 x0 x2 x1 x3 (ValueIdx.ix2 r j) : EReal) else ⊥ := by
  unfold k0_pay4
  dsimp only
  refine (concatenate_pair_apply_right (t := S4096x128) (s₁ := S4096x64) (s₂ := S4096x64) 1 _ _ _ (ValueIdx.ix2 r ⟨64 + j.val, by omega⟩) rfl rfl (ValueIdx.ix2 r j) (fun b hb => by
    fin_cases b
    · rfl
    · exact absurd rfl hb) (Nat.add_comm j.val 64)).trans ?_
  exact select_rows _ _ r j _ (mask_ge i v23 h r)

/-! ## The three updates of a row -/

theorem pay8_apply (i : grid0.Coords) (x0 : Vec Ideal S4096x61 .f32) (x2 : Vec Ideal S61x64 .f32) (x1 : Vec Ideal S4096x3 .f32) (x3 : Vec Ideal S3x64 .f32)
    (v20 v23 : BitVec 32) (h : v20.toNat ≤ 131072) (d : FVec Ideal S1x64 .f32) (j : Fin 64) :
    (k0_pay8 (k0_pay5 i x0 x2 x1 x3 v20 v23) (k0_pay6 i x0 x2 x1 x3 v20 v23) d (ValueIdx.ix2 0 j) : EReal)
      = max (d (ValueIdx.ix2 0 j) : EReal) (rowsMax (k0_pay3 x0 x2 x1 x3) j fun r => 4096 * (i 0).val + r.val < v20.toNat) := by
  unfold k0_pay8 k0_pay5 k0_pay6
  dsimp only
  rw [shapeCast_self]
  refine congrArg (max (d (ValueIdx.ix2 0 j) : EReal)) ?_
  refine (extractStridedSlice_apply _ _ _ _ (ValueIdx.ix2 0 ⟨j.val, by omega⟩) (fun a => by fin_cases a <;> simp)).trans ?_
  refine (pay7_apply _ _).trans ?_
  exact colMax_masked _ _ _ _ fun r => pay4_left i x0 x2 x1 x3 v20 v23 h r j

theorem pay9_apply (i : grid0.Coords) (x0 : Vec Ideal S4096x61 .f32) (x2 : Vec Ideal S61x64 .f32) (x1 : Vec Ideal S4096x3 .f32) (x3 : Vec Ideal S3x64 .f32)
    (v20 v23 : BitVec 32) (h : v23.toNat ≤ 131072) (d : FVec Ideal S1x64 .f32) (j : Fin 64) :
    (k0_pay9 (k0_pay5 i x0 x2 x1 x3 v20 v23) (k0_pay6 i x0 x2 x1 x3 v20 v23) d (ValueIdx.ix2 0 j) : EReal)
      = max (d (ValueIdx.ix2 0 j) : EReal) (rowsMax (k0_pay3 x0 x2 x1 x3) j fun r => ¬ 4096 * (i 0).val + r.val < v23.toNat) := by
  unfold k0_pay9 k0_pay5 k0_pay6
  dsimp only
  rw [shapeCast_self]
  refine congrArg (max (d (ValueIdx.ix2 0 j) : EReal)) ?_
  refine (extractStridedSlice_apply _ _ _ _ (ValueIdx.ix2 0 ⟨64 + j.val, by omega⟩) (fun a => by fin_cases a <;> simp)).trans ?_
  refine (pay7_apply _ _).trans ?_
  exact colMax_masked _ _ _ _ fun r => pay4_right i x0 x2 x1 x3 v20 v23 h r j

theorem pay10_apply (i : grid0.Coords) (z : FVec Ideal S4096x64 .f32) (v97 v101 : BitVec 32) (h : v97.toNat ≤ 131072) (h' : v101.toNat ≤ 131072)
    (d : FVec Ideal S1x64 .f32) (j : Fin 64) :
    (k0_pay10 (base i) z rowNo v97 v101 d (ValueIdx.ix2 0 j) : EReal)
      = max (d (ValueIdx.ix2 0 j) : EReal)
          (rowsMax z j fun r => ¬ 4096 * (i 0).val + r.val < v97.toNat ∧ 4096 * (i 0).val + r.val < v101.toNat) := by
  unfold k0_pay10
  dsimp only
  rw [shapeCast_self d]
  refine congrArg (max (d (ValueIdx.ix2 0 j) : EReal)) ?_
  refine (shapeCast_apply _ _ _ (ValueIdx.ix1 j) (by rw [Shape.rowMajor_val_one, Shape.rowMajor_val_two]; show j.val = 0 * 64 + j.val; omega)).trans ?_
  refine (reduce_colMax _ _ _ _ _ j rfl).trans ?_
  iterate 9 refine (colMax_halve _ _ _ (by decide) _).trans ?_
  refine colMax_masked _ _ _ _ fun r => select_rows _ _ r j _ ?_
  show cmpi .sge rowNo (broadcast S4096x1 (Scalar.subi v97 (base i))) (ValueIdx.ix2 r 0)
    &&& cmpi .slt rowNo (broadcast S4096x1 (Scalar.subi v101 (base i))) (ValueIdx.ix2 r 0) = _
  rw [mask_ge i v97 h r, mask_lt i v101 h' r]
  by_cases e : 4096 * (i 0).val + r.val < v97.toNat <;> by_cases e' : 4096 * (i 0).val + r.val < v101.toNat <;> simp [e, e']

/-! ## The block's product, the clearing and the finish -/

theorem pay3_apply (x0 : Vec Ideal S4096x61 .f32) (x2 : Vec Ideal S61x64 .f32) (x1 : Vec Ideal S4096x3 .f32) (x3 : Vec Ideal S3x64 .f32)
    (r : Fin 4096) (j : Fin 64) :
    (k0_pay3 x0 x2 x1 x3 (ValueIdx.ix2 r j) : EReal)
      = (∑ k : Fin 61, (x0 (ValueIdx.ix2 r k) : EReal) * x2 (ValueIdx.ix2 k j)) + ∑ k : Fin 3, (x1 (ValueIdx.ix2 r k) : EReal) * x3 (ValueIdx.ix2 k j) := by
  unfold k0_pay3
  rw [shapeCast_self x2, shapeCast_self x3]
  have e1 := Idealize.ShloMosaic.Ideal.matmul_plain_apply (φ₁ := .f32) (φ₂ := .f32) none x0 x2 (constant S4096x64 .f32 0x00000000#32) r j
  have e2 := Idealize.ShloMosaic.Ideal.matmul_plain_apply (φ₁ := .f32) (φ₂ := .f32) none x1 x3 (constant S4096x64 .f32 0x00000000#32) r j
  have e0 : (constant (F := Ideal) S4096x64 .f32 0x00000000#32 (ValueIdx.ix2 r j) : EReal) = 0 := Ideal.ofBits_zero_f32
  rw [e0, zero_add] at e1 e2
  exact congrArg₂ (fun a b : EReal => a + b) e1 e2

theorem pay2_apply (i : S16x64.Idx) : (k0_pay2 (F := Ideal) i : EReal) = ⊥ := ofBits_negInf

theorem pay1_apply (d : FVec Ideal S16x64 .f32) (b : FVec Ideal S1x64 .f32) (s : Fin 16) (j : Fin 64) :
    (k0_pay1 (F := Ideal) d b (ValueIdx.ix2 s j) : EReal)
      = if (d (ValueIdx.ix2 s j) : EReal) = ⊥ then (d (ValueIdx.ix2 s j) : EReal)
        else max ((d (ValueIdx.ix2 s j) : EReal) + b (ValueIdx.ix2 0 j)) 0 := by
  unfold k0_pay1
  rw [shapeCast_self d, shapeCast_self b]
  show Scalar.select (Ideal.cmp .oeq (d (ValueIdx.ix2 s j)) (FloatOps.ofBits (F := Ideal) .f32 0xFF800000#32)) (d (ValueIdx.ix2 s j) : EReal)
    (max ((d (ValueIdx.ix2 s j) : EReal) + broadcastTo S16x64 b broadcasts_S1x64_S16x64 (ValueIdx.ix2 s j)) (FloatOps.ofBits (F := Ideal) .f32 0x00000000#32)) = _
  rw [broadcastTo_apply b _ _ (ValueIdx.ix2 0 j) (fun a => by fin_cases a <;> first | (left; rfl) | (right; rfl) | rfl | simp)]
  have e0 : (FloatOps.ofBits (F := Ideal) .f32 0x00000000#32 : EReal) = 0 := Ideal.ofBits_zero_f32
  have e1 : (FloatOps.ofBits (F := Ideal) .f32 0xFF800000#32 : EReal) = ⊥ := ofBits_negInf
  rw [e0, e1]
  exact select_decide _ _ _

end Cert.KernelIdeal.Pool

end
-- ==== Proof.IdealBlocks.lean ====
/- The blocks the kernel's windows hold, as elements of the program's arguments, and the block's product as the rows' values. -/
module

public import proofs.«01_k».proof.Proof.IdealTables
public import proofs.«01_k».proof.Proof.IdealPay
public import Idealize.ShloMosaic.Lib.Pipeline.ValueKit.Geometry

@[expose] public section

set_option maxRecDepth 16384

noncomputable section

namespace Cert.KernelIdeal.Pool

open Idealize.ShloMosaic Idealize.ShloMosaic.TcCoe Idealize.ShloMosaic.Tactic Idealize.ShloMosaic.ValueIdx
open Cert.KernelIdeal.Gen Cert.Pool

variable (m : (ℓ : Loc nD τ sig) → Buf (Elt Ideal) ℓ)

/-- The program's arguments. -/
abbrev feats : FVec Ideal S131072x61 .f32 := m (((0 : Dev nD) : Thread nD τ).loc main_arg0)
abbrev poss : FVec Ideal S131072x3 .f32 := m (((0 : Dev nD) : Thread nD τ).loc main_arg1)
abbrev wts : FVec Ideal S64x64 .f32 := m (((0 : Dev nD) : Thread nD τ).loc main_arg2)
abbrev bias : FVec Ideal S64 .f32 := m (((0 : Dev nD) : Thread nD τ).loc main_arg3)

/-! ## What the host operations leave in the windows' arrays -/

theorem V_w1 (k : Fin 61) (j : Fin 64) : (V m 0 main_v1 : FVec Ideal S61x64 .f32) (ValueIdx.ix2 k j) = wts m (ValueIdx.ix2 j ⟨k.val, by omega⟩) := by
  have e : (V m 0 main_v1 : FVec Ideal S61x64 .f32)
      = transpose S61x64 [1, 0] (extractStridedSlice S64x61 ![0, 0] (wts m) slices_S64x64_S64x61_0_0) transposes_S64x61_S61x64_1_0 := by
    entry_read; rfl
  rw [e, transpose_apply _ _ _ _ (ValueIdx.ix2 j k) (fun a => by fin_cases a <;> rfl)]
  exact extractStridedSlice_apply _ _ _ _ _ (fun a => by fin_cases a <;> exact (Nat.zero_add _).symm)

theorem V_w2 (k : Fin 3) (j : Fin 64) : (V m 0 main_v3 : FVec Ideal S3x64 .f32) (ValueIdx.ix2 k j) = wts m (ValueIdx.ix2 j ⟨61 + k.val, by omega⟩) := by
  have e : (V m 0 main_v3 : FVec Ideal S3x64 .f32)
      = transpose S3x64 [1, 0] (extractStridedSlice S64x3 ![0, 61] (wts m) slices_S64x64_S64x3_0_61) transposes_S64x3_S3x64_1_0 := by
    entry_read; rfl
  rw [e, transpose_apply _ _ _ _ (ValueIdx.ix2 j k) (fun a => by fin_cases a <;> rfl)]
  exact extractStridedSlice_apply _ _ _ _ _ (fun a => by fin_cases a <;> first | exact (Nat.zero_add _).symm | rfl)

theorem V_bias (j : Fin 64) : (V m 0 main_v4 : FVec Ideal S1x64 .f32) (ValueIdx.ix2 0 j) = bias m (ValueIdx.ix1 j) := by
  have e : (V m 0 main_v4 : FVec Ideal S1x64 .f32) = shapeCast S1x64 (bias m) shapeCasts_S64_S1x64 := by
    entry_read; rfl
  rw [e]
  exact shapeCast_apply _ _ _ (ValueIdx.ix1 j) (by rw [Shape.rowMajor_val_one, Shape.rowMajor_val_two]; show j.val = 0 * 64 + j.val; omega)

/-! ## The blocks -/

theorem index0 (t : Fin (cfgM m).N) : ((cfgM m).win 0).index t = ![(grid0.coords t 0).val, 0] :=
  (by decide +kernel : ∀ i : grid0.Coords, cc0_transform_0 i = ![(i 0).val, 0]) (grid0.coords t)
theorem index1 (t : Fin (cfgM m).N) : ((cfgM m).win 1).index t = ![(grid0.coords t 0).val, 0] :=
  (by decide +kernel : ∀ i : grid0.Coords, cc0_transform_1 i = ![(i 0).val, 0]) (grid0.coords t)
theorem index2 (t : Fin (cfgM m).N) : ((cfgM m).win 2).index t = ![0, 0] :=
  (by decide +kernel : ∀ i : grid0.Coords, cc0_transform_2 i = ![0, 0]) (grid0.coords t)
theorem index3 (t : Fin (cfgM m).N) : ((cfgM m).win 3).index t = ![0, 0] :=
  (by decide +kernel : ∀ i : grid0.Coords, cc0_transform_3 i = ![0, 0]) (grid0.coords t)
theorem index4 (t : Fin (cfgM m).N) : ((cfgM m).win 4).index t = ![0, 0] :=
  (by decide +kernel : ∀ i : grid0.Coords, cc0_transform_4 i = ![0, 0]) (grid0.coords t)

theorem blk_x (t : Fin (cfgM m).N) (r : Fin 4096) (k : Fin 61) :
    (iblk m 0 0 t : Vec Ideal S4096x61 .f32) (ValueIdx.ix2 r k) = feats m (ValueIdx.ix2 (row (grid0.coords t) r) k) := by
  show V m 0 main_arg0 _ = _
  rw [(V_args m 0).1]
  refine congrArg (feats m) ?_
  blk_ext [index0 m t]
  show (grid0.coords t 0).val * 4096 + r.val = 4096 * (grid0.coords t 0).val + r.val
  omega

theorem blk_pos (t : Fin (cfgM m).N) (r : Fin 4096) (k : Fin 3) :
    (iblk m 0 1 t : Vec Ideal S4096x3 .f32) (ValueIdx.ix2 r k) = poss m (ValueIdx.ix2 (row (grid0.coords t) r) k) := by
  show V m 0 main_arg1 _ = _
  rw [(V_args m 0).2.1]
  refine congrArg (poss m) ?_
  blk_ext [index1 m t]
  show (grid0.coords t 0).val * 4096 + r.val = 4096 * (grid0.coords t 0).val + r.val
  omega

theorem blk_w1 (t : Fin (cfgM m).N) (k : Fin 61) (j : Fin 64) :
    (iblk m 0 2 t : Vec Ideal S61x64 .f32) (ValueIdx.ix2 k j) = wts m (ValueIdx.ix2 j ⟨k.val, by omega⟩) := by
  refine Eq.trans ?_ (V_w1 m k j)
  refine congrArg (V m 0 main_v1 : FVec Ideal S61x64 .f32) ?_
  blk_ext [index2 m t]

theorem blk_w2 (t : Fin (cfgM m).N) (k : Fin 3) (j : Fin 64) :
    (iblk m 0 3 t : Vec Ideal S3x64 .f32) (ValueIdx.ix2 k j) = wts m (ValueIdx.ix2 j ⟨61 + k.val, by omega⟩) := by
  refine Eq.trans ?_ (V_w2 m k j)
  refine congrArg (V m 0 main_v3 : FVec Ideal S3x64 .f32) ?_
  blk_ext [index3 m t]

theorem blk_bias (t : Fin (cfgM m).N) (j : Fin 64) :
    (iblk m 0 4 t : Vec Ideal S1x64 .f32) (ValueIdx.ix2 0 j) = bias m (ValueIdx.ix1 j) := by
  refine Eq.trans ?_ (V_bias m j)
  refine congrArg (V m 0 main_v4 : FVec Ideal S1x64 .f32) ?_
  blk_ext [index4 m t]

/-! ## The rows' values -/

/-- Row `r`'s value before the bias, feature `j`: its features times their weights plus its position times its weights. -/
def rowVal (j : Fin 64) (r : Fin 131072) : EReal :=
  (∑ k : Fin 61, (feats m (ValueIdx.ix2 r k) : EReal) * wts m (ValueIdx.ix2 j ⟨k.val, by omega⟩))
    + ∑ k : Fin 3, (poss m (ValueIdx.ix2 r k) : EReal) * wts m (ValueIdx.ix2 j ⟨61 + k.val, by omega⟩)

/-- The block's product, element by element. -/
theorem blk_product (t : Fin (cfgM m).N) (r : Fin 4096) (j : Fin 64) :
    (k0_pay3 (F := Ideal) (iblk m 0 0 t) (iblk m 0 2 t) (iblk m 0 1 t) (iblk m 0 3 t) (ValueIdx.ix2 r j) : EReal)
      = rowVal m j (row (grid0.coords t) r) := by
  refine (pay3_apply (iblk m 0 0 t) (iblk m 0 2 t) (iblk m 0 1 t) (iblk m 0 3 t) r j).trans ?_
  exact congrArg₂ (· + ·) (Finset.sum_congr rfl fun k _ => congrArg₂ (· * ·) (blk_x m t r k) (blk_w1 m t k j))
    (Finset.sum_congr rfl fun k _ => congrArg₂ (· * ·) (blk_pos m t r k) (blk_w2 m t k j))

end Cert.KernelIdeal.Pool

end
-- ==== Proof.IdealSpec.lean ====
/- One block of the kernel, row by row of the output: with the segment ids non-decreasing and below 16, the kernel's updates turn the
   greatest values over the rows before the block into the greatest values over the rows up to the block's end. -/
module

public import proofs.«01_k».proof.Proof.IdealCounts
public import proofs.«01_k».proof.Proof.IdealBlocks

@[expose] public section

set_option maxRecDepth 16384

noncomputable section

namespace Cert.KernelIdeal.Pool

open Idealize.ShloMosaic Idealize.ShloMosaic.TcCoe Idealize.ShloMosaic.Tactic
open Cert.KernelIdeal.Gen Cert.Pool

variable (m : (ℓ : Loc nD τ sig) → Buf (Elt Ideal) ℓ)

/-- The greatest values of every segment and feature over the first `N` rows. -/
def pooled (N : ℕ) : FVec Ideal S16x64 .f32 := fun i => (segSup (sid m) (rowVal m (i 1)) N (i 0).val : EReal)

theorem pooled_apply (N : ℕ) (s : Fin 16) (j : Fin 64) : (pooled m N (ValueIdx.ix2 s j) : EReal) = segSup (sid m) (rowVal m j) N s.val := rfl

section Block
variable (hR : ∀ r, (ids m r).toNat < 16) (hS : Sorted m) (t : Fin (cfgM m).N)

/-- The rows of point `t`'s block: their number, and the block's first and last id. -/
abbrev at_ (r : Fin 4096) : Fin 131072 := row (grid0.coords t) r
def lo : Fin 16 := ⟨sid m (at_ m t 0), hR _⟩
def hi : Fin 16 := ⟨sid m (at_ m t 4095), hR _⟩
abbrev first : ℕ := 4096 * (grid0.coords t 0).val
abbrev next : ℕ := 4096 * ((grid0.coords t 0).val + 1)

include hS in
theorem lo_le (r : Fin 4096) : (lo m hR t).val ≤ sid m (at_ m t r) :=
  hS (Fin.mk_le_mk.mpr (by show 4096 * _ + 0 ≤ 4096 * _ + r.val; omega))
include hS in
theorem le_hi (r : Fin 4096) : sid m (at_ m t r) ≤ (hi m hR t).val :=
  hS (Fin.mk_le_mk.mpr (by show 4096 * _ + r.val ≤ 4096 * _ + 4095; omega))
include hS in
theorem lo_le_hi : (lo m hR t).val ≤ (hi m hR t).val := lo_le m hR hS t 4095

/-- The greatest values of segment `s` within the block. -/
def blockSup (s : ℕ) (j : Fin 64) : EReal := (Finset.univ.filter fun r : Fin 4096 => sid m (at_ m t r) = s).sup fun r => rowVal m j (at_ m t r)

theorem next_le : next m t ≤ 131072 := by
  have := coord_lt (grid0.coords t)
  show 4096 * _ ≤ _
  omega

theorem pooled_next (s : Fin 16) (j : Fin 64) :
    (pooled m (next m t) (ValueIdx.ix2 s j) : EReal) = max (pooled m (first m t) (ValueIdx.ix2 s j) : EReal) (blockSup m t s.val j) :=
  segSup_succ (B := 4096) (sid m) (rowVal m j) (grid0.coords t 0).val s.val (next_le m t) (at_ m t) fun _ => rfl

include hS in
/-- A segment outside the block's range has no row in it. -/
theorem pooled_next_of_outside (s : Fin 16) (j : Fin 64) (h : s.val < (lo m hR t).val ∨ (hi m hR t).val < s.val) :
    (pooled m (next m t) (ValueIdx.ix2 s j) : EReal) = pooled m (first m t) (ValueIdx.ix2 s j) :=
  segSup_succ_of_none (B := 4096) (sid m) (rowVal m j) (grid0.coords t 0).val s.val (next_le m t) (at_ m t) (fun _ => rfl) fun r e => by
    have h1 := lo_le m hR hS t r; have h2 := le_hi m hR hS t r
    have e' : sid m (at_ m t r) = s.val := e
    omega

/-- The block's product. -/
abbrev prod : FVec Ideal S4096x64 .f32 := k0_pay3 (F := Ideal) (iblk m 0 0 t) (iblk m 0 2 t) (iblk m 0 1 t) (iblk m 0 3 t)

/-- A mask that picks the rows of segment `s` picks its greatest values. -/
theorem rowsMax_eq (s : ℕ) (j : Fin 64) (p : Fin 4096 → Prop) [DecidablePred p] (h : ∀ r, p r ↔ sid m (at_ m t r) = s) :
    rowsMax (prod m t) j p = blockSup m t s j := by
  unfold rowsMax blockSup
  rw [Finset.filter_congr fun r _ => h r]
  exact Finset.sup_congr rfl fun r _ => blk_product m t r j

/-! ## The updates -/

/-- The state after the two boundary updates and the first `k` inner ones. -/
def state (k : ℕ) : FVec Ideal S16x64 .f32 := fun i =>
  if (i 0).val = (lo m hR t).val ∨ (i 0).val = (hi m hR t).val ∨ ((lo m hR t).val < (i 0).val ∧ (i 0).val ≤ (lo m hR t).val + k)
    then pooled m (next m t) i else pooled m (first m t) i

theorem state_apply (k : ℕ) (s : Fin 16) (j : Fin 64) : state m hR t k (ValueIdx.ix2 s j) =
    if s.val = (lo m hR t).val ∨ s.val = (hi m hR t).val ∨ ((lo m hR t).val < s.val ∧ s.val ≤ (lo m hR t).val + k)
      then pooled m (next m t) (ValueIdx.ix2 s j) else pooled m (first m t) (ValueIdx.ix2 s j) := rfl

abbrev cumAt (k : Fin 17) : BitVec 32 := cum (F := Ideal) 0 (tbl m 2) k

abbrev v38 : FVec Ideal S2048x128 .f32 := k0_pay5 (F := Ideal) (grid0.coords t) (iblk m 0 0 t) (iblk m 0 2 t) (iblk m 0 1 t) (iblk m 0 3 t)
  (cumAt m (lo m hR t).succ) (cumAt m (hi m hR t).castSucc)
abbrev v39 : FVec Ideal S2048x128 .f32 := k0_pay6 (F := Ideal) (grid0.coords t) (iblk m 0 0 t) (iblk m 0 2 t) (iblk m 0 1 t) (iblk m 0 3 t)
  (cumAt m (lo m hR t).succ) (cumAt m (hi m hR t).castSucc)

include hR hS in
theorem before_cum (k : Fin 17) (r : Fin 4096) : 4096 * (grid0.coords t 0).val + r.val < (cumAt m k).toNat ↔ sid m (at_ m t r) < k.val :=
  lt_cum m hR hS 0 k (at_ m t r)

include hS in
/-- The update of the block's first segment. -/
theorem low_update (d : FVec Ideal S1x64 .f32) (j : Fin 64) :
    (k0_pay8 (v38 m hR t) (v39 m hR t) d (ValueIdx.ix2 0 j) : EReal) = max (d (ValueIdx.ix2 0 j) : EReal) (blockSup m t (lo m hR t).val j) := by
  refine (pay8_apply _ _ _ _ _ _ _ (cum_le m hR 0 _) d j).trans (congrArg (max (d (ValueIdx.ix2 0 j) : EReal)) (rowsMax_eq m t (lo m hR t).val j _ fun r => ?_))
  have h1 := lo_le m hR hS t r
  rw [before_cum m hR hS t _ r, Fin.val_succ]; omega

include hS in
/-- The update of its last segment. -/
theorem high_update (d : FVec Ideal S1x64 .f32) (j : Fin 64) :
    (k0_pay9 (v38 m hR t) (v39 m hR t) d (ValueIdx.ix2 0 j) : EReal) = max (d (ValueIdx.ix2 0 j) : EReal) (blockSup m t (hi m hR t).val j) := by
  refine (pay9_apply _ _ _ _ _ _ _ (cum_le m hR 0 _) d j).trans (congrArg (max (d (ValueIdx.ix2 0 j) : EReal)) (rowsMax_eq m t (hi m hR t).val j _ fun r => ?_))
  have h1 := le_hi m hR hS t r
  rw [before_cum m hR hS t _ r, Fin.val_castSucc]; omega

include hR hS in
/-- The update of a segment between. -/
theorem inner_update (s : Fin 16) (d : FVec Ideal S1x64 .f32) (j : Fin 64) :
    (k0_pay10 (base (grid0.coords t)) (prod m t) rowNo (cumAt m s.castSucc) (cumAt m s.succ) d (ValueIdx.ix2 0 j) : EReal)
      = max (d (ValueIdx.ix2 0 j) : EReal) (blockSup m t s.val j) := by
  refine (pay10_apply _ _ _ _ (cum_le m hR 0 _) (cum_le m hR 0 _) d j).trans (congrArg (max (d (ValueIdx.ix2 0 j) : EReal)) (rowsMax_eq m t s.val j _ fun r => ?_))
  rw [before_cum m hR hS t _ r, before_cum m hR hS t _ r, Fin.val_castSucc, Fin.val_succ]; omega

include hS in
/-- The two boundary updates. -/
theorem state_zero : state m hR t 0 = edges (lo m hR t) (hi m hR t) (v38 m hR t) (v39 m hR t) (pooled m (first m t)) := by
  funext i
  obtain ⟨s, j, rfl⟩ : ∃ (s : Fin 16) (j : Fin 64), i = ValueIdx.ix2 s j := ⟨i 0, i 1, by funext a; fin_cases a <;> rfl⟩
  unfold edges
  rw [state_apply, setRow_apply]
  by_cases hh : s = hi m hR t
  · rw [if_pos (Or.inr (Or.inl (congrArg Fin.val hh))), if_pos hh]
    refine Eq.trans ?_ (high_update m hR hS t _ j).symm
    rw [rowOf_apply, setRow_apply, ← hh]
    refine (pooled_next m t s j).trans ?_
    by_cases hl : s = lo m hR t
    · rw [if_pos hl]
      refine Eq.trans ?_ (congrArg (fun x : EReal => max x (blockSup m t s.val j)) (low_update m hR hS t _ j).symm)
      rw [rowOf_apply, ← hl, max_assoc, max_self]
    · rw [if_neg hl]
  · rw [if_neg hh, setRow_apply]
    by_cases hl : s = lo m hR t
    · rw [if_pos (Or.inl (congrArg Fin.val hl)), if_pos hl]
      refine Eq.trans ?_ (low_update m hR hS t _ j).symm
      rw [rowOf_apply, ← hl]
      exact pooled_next m t s j
    · rw [if_neg hl, if_neg]
      rintro (h | h | h)
      · exact hl (Fin.ext h)
      · exact hh (Fin.ext h)
      · omega

include hR hS in
/-- One inner update. -/
theorem state_succ (k : ℕ) (s : Fin 16) (hs : s.val = (lo m hR t).val + 1 + k) (hlt : s.val < (hi m hR t).val) :
    state m hR t (k + 1) = inner 0 (tbl m 2) (base (grid0.coords t)) (prod m t) rowNo s (state m hR t k) := by
  funext i
  obtain ⟨p, j, rfl⟩ : ∃ (s : Fin 16) (j : Fin 64), i = ValueIdx.ix2 s j := ⟨i 0, i 1, by funext a; fin_cases a <;> rfl⟩
  unfold inner
  rw [setRow_apply]
  by_cases hp : p = s
  · subst hp
    rw [if_pos rfl, state_apply, if_pos (Or.inr (Or.inr ⟨by omega, by omega⟩))]
    refine Eq.trans ?_ (inner_update m hR hS t p _ j).symm
    rw [rowOf_apply, state_apply, if_neg (by omega)]
    exact pooled_next m t p j
  · have hv : p.val ≠ s.val := fun e => hp (Fin.ext e)
    rw [if_neg hp, state_apply, state_apply]
    by_cases h : p.val = (lo m hR t).val ∨ p.val = (hi m hR t).val ∨ ((lo m hR t).val < p.val ∧ p.val ≤ (lo m hR t).val + k)
    · rw [if_pos h, if_pos (by omega)]
    · rw [if_neg h, if_neg (by omega)]

include hS in
/-- After all of them every segment is at the block's end. -/
theorem state_last : state m hR t ((hi m hR t).val - (lo m hR t).val - 1) = pooled m (next m t) := by
  funext i
  obtain ⟨s, j, rfl⟩ : ∃ (s : Fin 16) (j : Fin 64), i = ValueIdx.ix2 s j := ⟨i 0, i 1, by funext a; fin_cases a <;> rfl⟩
  rw [state_apply]
  have hlh := lo_le_hi m hR hS t
  by_cases h : s.val = (lo m hR t).val ∨ s.val = (hi m hR t).val ∨ ((lo m hR t).val < s.val ∧ s.val ≤ (lo m hR t).val + ((hi m hR t).val - (lo m hR t).val - 1))
  · rw [if_pos h]
  · rw [if_neg h]
    exact (pooled_next_of_outside m hR hS t s j (by omega)).symm

end Block

/-- Before any row every entry is `-∞`. -/
theorem pooled_zero : pooled m 0 = k0_pay2 (F := Ideal) := by
  funext i
  exact (segSup_zero _ _ _).trans (pay2_apply i).symm

end Cert.KernelIdeal.Pool

end
-- ==== Proof.IdealRun.lean ====
/- The run of the pooling kernel's program over the extended reals, its output followed exactly: with the segment ids below 16 and
   non-decreasing, the output ends as the greatest values over all the rows, finished with the bias. -/
module

public import proofs.«01_k».proof.Proof.IdealSpec
public import proofs.«01_k».proof.Proof.IdealExact
public import Idealize.ShloMosaic.Lib.Pipeline.TableIdle
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The proof data -/

/-- The output as point `t` leaves it. -/
def out (c : Dev nD) (t : Fin (cfgM m).N) : FVec Ideal S16x64 .f32 :=
  finish (F := Ideal) (grid0.coords t) (iblk m c 4 t) (pooled m (next m t))

/-- Every input's buffer holds its block at every point, and the output's what the points so far amount to. -/
def exact (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ _ := iprop(Pipeline.ΦA spec0 c ∗ Pipeline.ΦT pre0 (tbl m) c)
  q _ := fullShare
  owed _ := 0

theorem exact_A (c : Dev nD) (w : Fin (cfgM m).W) : (exact m 0 c).A w = V m c (Pipeline.arrRef spec0 w) := by
  dsimp only [exact]

theorem exact_after0 (c : Dev nD) (t : Fin (cfgM m).N) : (exact m 0 c).after 0 t = iblk m c 0 t := by dsimp only [exact]; try rfl
theorem exact_after1 (c : Dev nD) (t : Fin (cfgM m).N) : (exact m 0 c).after 1 t = iblk m c 1 t := by dsimp only [exact]; try rfl
theorem exact_after2 (c : Dev nD) (t : Fin (cfgM m).N) : (exact m 0 c).after 2 t = iblk m c 2 t := by dsimp only [exact]; try rfl
theorem exact_after3 (c : Dev nD) (t : Fin (cfgM m).N) : (exact m 0 c).after 3 t = iblk m c 3 t := by dsimp only [exact]; try rfl
theorem exact_after4 (c : Dev nD) (t : Fin (cfgM m).N) : (exact m 0 c).after 4 t = iblk m c 4 t := by dsimp only [exact]; try rfl
theorem exact_after5 (c : Dev nD) (t : Fin (cfgM m).N) : (exact m 0 c).after 5 t = out m c t := by dsimp only [exact]; try rfl

theorem exact_before0 (c : Dev nD) (t : Fin (cfgM m).N) (d) : (exact m 0 c).before 0 t d = iblk m c 0 t :=
  before_of m (exact m 0 c) 0 (by decide) (exact_A m c 0) (exact_after0 m c) t d
theorem exact_before1 (c : Dev nD) (t : Fin (cfgM m).N) (d) : (exact m 0 c).before 1 t d = iblk m c 1 t :=
  before_of m (exact m 0 c) 1 (by decide) (exact_A m c 1) (exact_after1 m c) t d
theorem exact_before2 (c : Dev nD) (t : Fin (cfgM m).N) (d) : (exact m 0 c).before 2 t d = iblk m c 2 t :=
  before_of m (exact m 0 c) 2 (by decide) (exact_A m c 2) (exact_after2 m c) t d
theorem exact_before3 (c : Dev nD) (t : Fin (cfgM m).N) (d) : (exact m 0 c).before 3 t d = iblk m c 3 t :=
  before_of m (exact m 0 c) 3 (by decide) (exact_A m c 3) (exact_after3 m c) t d
theorem exact_before4 (c : Dev nD) (t : Fin (cfgM m).N) (d) : (exact m 0 c).before 4 t d = iblk m c 4 t :=
  before_of m (exact m 0 c) 4 (by decide) (exact_A m c 4) (exact_after4 m c) t d

/-! ## What the body finds in the output's buffer -/

theorem coord_val : ∀ t : Fin grid0.N, (grid0.coords t 0).val = t.val := by decide +kernel
theorem firstBit_iff : ∀ i : grid0.Coords, firstBit i = 1#1 ↔ (i 0).val = 0 := by decide +kernel
theorem lastBit_iff : ∀ i : grid0.Coords, lastBit (BitVec.ofNat 32 (i 0).val) = 1#1 ↔ (i 0).val = 31 := by decide +kernel

/-- The output is written back after the last point only. -/
theorem flush5 (t : Fin (cfgM m).N) : ((cfgM m).win 5).flush t = true ↔ t.val % 32 = 31 :=
  Pipeline.Window.flush_const _ rfl (fun _ _ => rfl) N_0 rfl t

theorem fresh5 (t : Fin (cfgM m).N) (h : t.val ≠ 0) : (cfgM m).fresh 5 t.val = false := by
  obtain ⟨n, hn⟩ : ∃ n, t.val = n + 1 := ⟨t.val - 1, by omega⟩
  have ht : t.val < 32 := t.isLt
  have hlt : n < (cfgM m).N := by show n < 32; omega
  rw [hn, Cfg.fresh_succ _ _ n hlt]
  have e1 : ((cfgM m).win 5).flush ⟨n, hlt⟩ = false := by
    rw [Bool.eq_false_iff, Ne, flush5]; show ¬ n % 32 = 31; omega
  rw [e1]; rfl

theorem start_first {i : grid0.Coords} (h : (i 0).val = 0) (d : FVec Ideal S16x64 .f32) : start (F := Ideal) i d = k0_pay2 (F := Ideal) := by
  unfold start; rw [if_pos ((firstBit_iff i).mpr h)]
theorem start_later {i : grid0.Coords} (h : (i 0).val ≠ 0) (d : FVec Ideal S16x64 .f32) : start (F := Ideal) i d = d := by
  unfold start; rw [if_neg fun e => h ((firstBit_iff i).mp e)]
theorem finish_last {i : grid0.Coords} (h : (i 0).val = 31) (x4 : FVec Ideal S1x64 .f32) (d : FVec Ideal S16x64 .f32) :
    finish (F := Ideal) i x4 d = k0_pay1 (F := Ideal) d x4 := by
  unfold finish; rw [if_pos ((lastBit_iff i).mpr h)]
theorem finish_before {i : grid0.Coords} (h : (i 0).val ≠ 31) (x4 : FVec Ideal S1x64 .f32) (d : FVec Ideal S16x64 .f32) :
    finish (F := Ideal) i x4 d = d := by
  unfold finish; rw [if_neg fun e => h ((lastBit_iff i).mp e)]

/-- The updates start from the greatest values over the rows before the block. -/
theorem start_eq (t : Fin (cfgM m).N) (d) : start (F := Ideal) (grid0.coords t) ((exact m 0 0).before 5 t d) = pooled m (first m t) := by
  have hc : (grid0.coords t 0).val = t.val := coord_val t
  have ht : t.val < 32 := t.isLt
  by_cases h : t.val = 0
  · refine (start_first (hc.trans h) _).trans ((pooled_zero m).symm.trans (congrArg (pooled m) ?_))
    show 0 = 4096 * (grid0.coords t 0).val
    omega
  · refine (start_later (fun e => h (hc.symm.trans e)) _).trans ?_
    rw [(exact m 0 0).before_out_traj 5 rfl (fun _ _ => rfl) (fun _ _ hi _ => absurd hi (by exact Bool.false_ne_true)) t.val t rfl d, fresh5 m t h,
      if_neg Bool.false_ne_true, exact_after5]
    have hc' : (grid0.coords ⟨t.val - 1, by have : grid0.N = 32 := N_0; omega⟩ 0).val = t.val - 1 := coord_val _
    refine (finish_before (by omega) _ _).trans (congrArg (pooled m) ?_)
    show 4096 * ((grid0.coords ⟨t.val - 1, _⟩ 0).val + 1) = 4096 * (grid0.coords t 0).val
    omega

/-! ## The body obligation -/

/-- What the body is called with at point `t`. -/
def exactPre (c : Dev nD) (t : Fin (cfgM m).N) : sProp 𝕄 :=
  iprop((exact m 0 c).Φ t.castSucc ∗ (exact m 0 c).owesAt () t.castSucc
    ∗ (∃ d, owns (c : Thread nD τ) (ms0 m t) fullShare ((exact m 0 c).before 0 t d))
    ∗ (∃ d, owns (c : Thread nD τ) (ms1 m t) fullShare ((exact m 0 c).before 1 t d))
    ∗ (∃ d, owns (c : Thread nD τ) (ms2 m t) fullShare ((exact m 0 c).before 2 t d))
    ∗ (∃ d, owns (c : Thread nD τ) (ms3 m t) fullShare ((exact m 0 c).before 3 t d))
    ∗ (∃ d, owns (c : Thread nD τ) (ms4 m t) fullShare ((exact m 0 c).before 4 t d))
    ∗ (∃ d, owns (c : Thread nD τ) (ms5 m t) fullShare ((exact m 0 c).before 5 t d)))

/-- What the body returns. -/
def exactPost (c : Dev nD) (t : Fin (cfgM m).N) : sProp 𝕄 :=
  iprop((exact m 0 c).Φ t.succ ∗ (exact m 0 c).owesAt () t.succ
    ∗ owns (c : Thread nD τ) (ms0 m t) fullShare ((exact m 0 c).after 0 t)
    ∗ owns (c : Thread nD τ) (ms1 m t) fullShare ((exact m 0 c).after 1 t)
    ∗ owns (c : Thread nD τ) (ms2 m t) fullShare ((exact m 0 c).after 2 t)
    ∗ owns (c : Thread nD τ) (ms3 m t) fullShare ((exact m 0 c).after 3 t)
    ∗ owns (c : Thread nD τ) (ms4 m t) fullShare ((exact m 0 c).after 4 t)
    ∗ owns (c : Thread nD τ) (ms5 m t) fullShare ((exact m 0 c).after 5 t))

set_option maxHeartbeats 1600000 in
/-- The body at any point turns the output's contents before the point into those after it. -/
theorem exact_body (hR : ∀ r, (ids m r).toNat < 16) (hS : Sorted m) (c : Dev nD) (t : Fin (cfgM m).N) :
    exactPre m c t ⊢ wp frame (wpE (defs₀ (F := Ideal)) Variants.none c none) Set.univ (bodyAt m t) (fun _ => exactPost m c t) := by
  obtain rfl : c = 0 := Subsingleton.elim _ _
  unfold exactPre exactPost bodyAt
  simp only [exact_before0, exact_before1, exact_before2, exact_before3, exact_before4]
  rw [show (exact m 0 0).Φ t.succ = (exact m 0 0).Φ t.castSucc from rfl,
    show (exact m 0 0).owesAt () t.succ = (exact m 0 0).owesAt () t.castSucc from rfl,
    exact_after0, exact_after1, exact_after2, exact_after3, exact_after4, exact_after5]
  rw [show (exact m 0 0).Φ t.castSucc = iprop(Pipeline.ΦA spec0 0 ∗ Pipeline.ΦT pre0 (tbl m) 0) from rfl, PhiT_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  iapply (body_exact 0 (grid0.coords t) (ms0 m t) _ (ms1 m t) _ (ms2 m t) _ (ms3 m t) _ (ms4 m t) _ (ms5 m t) _
    (iblk m 0 0 t) (iblk m 0 1 t) (iblk m 0 2 t) (iblk m 0 3 t) (iblk m 0 4 t) (tbl m 0) (tbl m 1) (tbl m 2)
    (lo m hR t) (hi m hR t)
    ((loWord_eq m 0 (grid0.coords t)).trans (word_eq (hR _))) ((hiWord_eq m 0 (grid0.coords t)).trans (word_eq (hR _)))
    ((exact m 0 0).before 5 t d5) (state m hR t)
    ((state_zero m hR hS t).trans (congrArg (edges (lo m hR t) (hi m hR t) (v38 m hR t) (v39 m hR t)) (start_eq m t d5).symm))
    (fun k s h h' => state_succ m hR hS t k s h h') Set.univ _)
  rw [state_last m hR hS t]
  unfold Ins OutAt
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [H4]; · iexact H4
  isplitl [HT2 H5]
  · isplitl [HT2]; · iexact HT2
    iexact H5
  iintro ⟨⟨H0, H1, H2, H3, HT0, HT1⟩, H4, HT2, H5⟩
  isplitl [HΦ HT0 HT1 HT2]
  · isplitl [HΦ]; · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem exact_obligation (hR : ∀ r, (ids m r).toNat < 16) (hS : Sorted m) (c : Dev nD) :
    BodyObligation (exact m 0 c) (defs₀ (F := Ideal)) Variants.none () Set.univ := fun t => by
  rw [bigSep_W0, bigSep_W0, defs₀_row m]
  exact triple_restated (exact_body m hR hS c t) rfl .rfl fun _ => .rfl

/-! ## The run -/

set_option backward.isDefEq.respectTransparency.types false in
/-- The program runs to the launch's conclusion. -/
theorem run_exact (hR : ∀ r, (ids m r).toNat < 16) (hS : Sorted m) : θ_run defs (onTc (τ := τ) (main (F := Ideal))) (s₀ m ρ)
    (Pipeline.FramePost (Pipeline.pin pcfgs fun _ => adm m) (exact m) 0 (V m)) :=
  Pipeline.θ_run_frameP pcfgs (fun _ => adm m) (exact m) (0 : Fin 1) launch0 defs₀ Variants.none m ρ main
    (hbody := fun c => (exact_obligation m hR hS c).loose) (hshare := fun c => (exact m 0 c).share_full fun _ => rfl)
    (howed := fun _ _ => rfl) (V := V m) (hmain := hmain m Variants.none) (hA := exact_A m) (hpf := V_pre m) (hΦ := fun _ _ => rfl)

/-- The last point. -/
def lastPt : Fin (cfgM m).N := ⟨31, by show 31 < grid0.N; rw [N_0]; omega⟩

theorem whole_last : ((cfgM m).win 5).WholeAt (lastPt m) := by
  refine ⟨(flush5 m _).mpr rfl, fun t h => Fin.ext ?_, fun a => ?_⟩
  · have := (flush5 m t).mp h
    have ht : t.val < 32 := t.isLt
    show t.val = 31
    omega
  · fin_cases a <;> exact ⟨rfl, rfl⟩

/-- What the program's output buffer ends with. -/
def result : FVec Ideal S16x64 .f32 := k0_pay1 (F := Ideal) (pooled m 131072) (iblk m 0 4 (lastPt m))

theorem out_last : out m 0 (lastPt m) = result m := by
  have hc : (grid0.coords (lastPt m) 0).val = 31 := coord_val _
  refine (finish_last hc _ _).trans ?_
  unfold result
  have e : next m (lastPt m) = 131072 := by show 4096 * ((grid0.coords (lastPt m) 0).val + 1) = _; omega
  rw [e]

theorem final_out : (exact m 0 0).arrAt 5 (cfgM m).N = result m := by
  refine (exact m 0 0).arrAt_eq_of_after_last 5 (lastPt m) (whole_last m) _ fun j => ?_
  rw [exact_after5, out_last]
  generalize result m = G
  rfl

end Cert.KernelIdeal.Pool

end
-- ==== Proof.ReferenceValue.lean ====
/- What the reference computes, element by element: the greatest, over a segment's rows, of the row's value cut off below zero. -/
module

public import proofs.«01_k».proof.Proof.Gen.ReferenceIdeal.Read
public import proofs.«01_k».proof.Proof.ColumnMax
public import proofs.«01_k».proof.Proof.Conditions
public import Mathlib.Algebra.BigOperators.Fin

@[expose] public section

set_option maxRecDepth 16384

noncomputable section

namespace Cert.ReferenceIdeal.Pool

open Idealize.ShloMosaic Cert.ReferenceIdeal Cert.ReferenceIdeal.Gen Cert.ReferenceIdeal.Read

variable (x0 : FVec Ideal S131072x61 .f32) (x1 : FVec Ideal S131072x3 .f32) (x2 : FVec Ideal S64x64 .f32) (x3 : FVec Ideal S64 .f32)
  (x4 : IVec S131072 32)

/-- Row `r`'s value before the bias, feature `j`: its features times their weights plus its position times its weights. -/
def rowDot (j : Fin 64) (r : Fin 131072) : EReal :=
  (∑ k : Fin 61, (x0 (ValueIdx.ix2 r k) : EReal) * x2 (ValueIdx.ix2 j ⟨k.val, by omega⟩))
    + ∑ k : Fin 3, (x1 (ValueIdx.ix2 r k) : EReal) * x2 (ValueIdx.ix2 j ⟨61 + k.val, by omega⟩)

/-- The joined rows: features first. -/
theorem joined_left (r : Fin 131072) (k : Fin 61) : val_main_v0 (F := Ideal) x0 x1 (ValueIdx.ix2 r ⟨k.val, by omega⟩) = x0 (ValueIdx.ix2 r k) :=
  concatenate_pair_apply_left (t := S131072x64) (s₁ := S131072x61) (s₂ := S131072x3) 1 _ _ _ (ValueIdx.ix2 r ⟨k.val, by omega⟩) rfl
    (ValueIdx.ix2 r k) (fun b => by fin_cases b <;> rfl)

/-- The joined rows: the position after the features. -/
theorem joined_right (r : Fin 131072) (k : Fin 3) : val_main_v0 (F := Ideal) x0 x1 (ValueIdx.ix2 r ⟨61 + k.val, by omega⟩) = x1 (ValueIdx.ix2 r k) :=
  concatenate_pair_apply_right (t := S131072x64) (s₁ := S131072x61) (s₂ := S131072x3) 1 _ _ _ (ValueIdx.ix2 r ⟨61 + k.val, by omega⟩) rfl rfl
    (ValueIdx.ix2 r k) (fun b hb => by
      fin_cases b
      · rfl
      · exact absurd rfl hb) (Nat.add_comm k.val 61)

/-- The product of the joined row and the weights splits at the join. -/
theorem product_apply (r : Fin 131072) (j : Fin 64) :
    (val_main_v2 (F := Ideal) x0 x1 x2 (ValueIdx.ix2 r j) : EReal) = rowDot x0 x1 x2 j r := by
  have e : ∀ k : Fin 64, (val_main_v0 (F := Ideal) x0 x1 (lidx_main_v2 (ValueIdx.ix2 r j) k) : EReal) * val_main_v1 (F := Ideal) x2 (ridx_main_v2 (ValueIdx.ix2 r j) k)
      = (val_main_v0 (F := Ideal) x0 x1 (ValueIdx.ix2 r k) : EReal) * x2 (ValueIdx.ix2 j k) := fun k => by
    have e1 : lidx_main_v2 (ValueIdx.ix2 r j) k = ValueIdx.ix2 r k := by
      funext a; fin_cases a <;> rfl
    have e2 : idx_main_v1 (ridx_main_v2 (ValueIdx.ix2 r j) k) = ValueIdx.ix2 j k := by
      funext a; fin_cases a <;> rfl
    rw [e1, val_main_v1_apply, e2]
  refine (val_main_v2_apply x0 x1 x2 _).trans ?_
  refine (Finset.sum_congr rfl fun k _ => e k).trans ?_
  refine (Fin.sum_univ_add (a := 61) (b := 3) fun k : Fin (61 + 3) =>
    (val_main_v0 (F := Ideal) x0 x1 (ValueIdx.ix2 r k) : EReal) * x2 (ValueIdx.ix2 j k)).trans ?_
  exact congrArg₂ (· + ·)
    (Finset.sum_congr rfl fun k _ => congrArg (fun z : EReal => z * x2 (ValueIdx.ix2 j ⟨k.val, by omega⟩)) (joined_left x0 x1 r k))
    (Finset.sum_congr rfl fun k _ => congrArg (fun z : EReal => z * x2 (ValueIdx.ix2 j ⟨61 + k.val, by omega⟩)) (joined_right x0 x1 r k))

/-- A row's activation: with the bias, cut off below zero. -/
theorem row_apply (r : Fin 131072) (j : Fin 64) :
    (val_main_v6 (F := Ideal) x0 x1 x2 x3 (ValueIdx.ix2 r j) : EReal) = max (rowDot x0 x1 x2 j r + x3 (ValueIdx.ix1 j)) 0 := by
  have e3 : idx_main_v3 (idx_main_v4 (ValueIdx.ix2 r j)) = ValueIdx.ix1 j := by
    funext a; fin_cases a; rfl
  have hb : (val_main_v4 (F := Ideal) x3 (ValueIdx.ix2 r j) : EReal) = x3 (ValueIdx.ix1 j) := by
    rw [val_main_v4_apply, val_main_v3_apply, e3]
  have hz : (val_main_call0_v0 (F := Ideal) (ValueIdx.ix2 r j) : EReal) = 0 := by
    rw [val_main_call0_v0_apply]; exact Ideal.ofBits_zero_f32
  show max ((val_main_v2 (F := Ideal) x0 x1 x2 (ValueIdx.ix2 r j) : EReal) + val_main_v4 (F := Ideal) x3 (ValueIdx.ix2 r j))
    (val_main_call0_v0 (F := Ideal) (ValueIdx.ix2 r j)) = _
  rw [product_apply, hb, hz]

/-- The comparison of a row's id with a segment number, as natural numbers. -/
theorem same_iff (w : BitVec 32) (s : Fin 16) : IntOp.cmpi .eq w (BitVec.ofNat 32 s.val) = 1#1 ↔ w.toNat = s.val := by
  have hs : (BitVec.ofNat 32 s.val).toNat = s.val := by
    rw [BitVec.toNat_ofNat]; exact Nat.mod_eq_of_lt (by omega)
  have h1 : IntOp.cmpi .eq w (BitVec.ofNat 32 s.val) = 1#1 ↔ w = BitVec.ofNat 32 s.val := by
    show BitVec.ofBool (w == BitVec.ofNat 32 s.val) = 1#1 ↔ _
    by_cases h : w = BitVec.ofNat 32 s.val
    · simp [h]
    · have hb : (w == BitVec.ofNat 32 s.val) = false := beq_eq_false_iff_ne.mpr h
      rw [hb]
      exact ⟨fun e => absurd e (by decide), fun e => absurd e h⟩
  rw [h1, ← BitVec.toNat_inj, hs]

/-- The masked rows: a row of the segment shows its activation, the other rows `-∞`. -/
theorem masked_apply (s : Fin 16) (r : Fin 131072) (j : Fin 64) :
    (val_main_v14 (F := Ideal) x0 x1 x2 x3 x4 (ValueIdx.ix3 s r j) : EReal)
      = if (x4 (ValueIdx.ix1 r)).toNat = s.val then max (rowDot x0 x1 x2 j r + x3 (ValueIdx.ix1 j)) 0 else ⊥ := by
  have e1 : idx_main_v8 (idx_main_v10 (idx_main_call1_v1 (ValueIdx.ix3 s r j))) = ValueIdx.ix1 r := by
    funext a; fin_cases a; rfl
  have e2 : idx_main_v13 (idx_main_call1_v2 (ValueIdx.ix3 s r j)) = ValueIdx.ix2 r j := by
    funext a; fin_cases a <;> rfl
  have hc : val_main_call1_v1 (F := Ideal) x4 (ValueIdx.ix3 s r j) = IntOp.cmpi .eq (x4 (ValueIdx.ix1 r)) (BitVec.ofNat 32 s.val) := by
    rw [val_main_call1_v1_apply, val_main_v12_apply, val_main_v10_apply, val_main_v8_apply, e1, val_main_v11_apply, val_main_v9_apply,
      val_main_v7_apply]
  have hv : (val_main_call1_v2 (F := Ideal) x0 x1 x2 x3 (ValueIdx.ix3 s r j) : EReal) = max (rowDot x0 x1 x2 j r + x3 (ValueIdx.ix1 j)) 0 := by
    rw [val_main_call1_v2_apply, val_main_v13_apply, e2]; exact row_apply x0 x1 x2 x3 r j
  have hn : (val_main_call1_v3 (F := Ideal) (ValueIdx.ix3 s r j) : EReal) = ⊥ := by
    rw [val_main_call1_v3_apply]; exact Cert.Pool.ofBits_negInf
  rw [val_main_v14_apply, hc]
  by_cases h : (x4 (ValueIdx.ix1 r)).toNat = s.val
  · rw [if_pos h, (same_iff _ s).mpr h]; exact hv
  · rw [if_neg h, ValueIdx.eq_zero_of_ne_one (fun e => h ((same_iff _ s).mp e))]; exact hn

/-- The reference's result: the greatest activation among the segment's rows. -/
theorem result_apply (s : Fin 16) (j : Fin 64) :
    (val_main_v15 (F := Ideal) x0 x1 x2 x3 x4 (ValueIdx.ix2 s j) : EReal)
      = (Finset.univ.filter fun r : Fin 131072 => (x4 (ValueIdx.ix1 r)).toNat = s.val).sup
          fun r => max (rowDot x0 x1 x2 j r + x3 (ValueIdx.ix1 j)) 0 := by
  have hm := masked_apply x0 x1 x2 x3 x4 s
  unfold val_main_v15
  generalize val_main_v14 (F := Ideal) x0 x1 x2 x3 x4 = Y at hm
  refine (Host.reduce_eq_fold _ _ _ _ _ _).trans ?_
  refine (Shape.ReducesTo.fold_fiber_r3_a1 _ _ _ _ _).trans ?_
  refine (Cert.Pool.fold_eq_sup _ _).trans ?_
  refine (Finset.sup_congr rfl fun r _ => hm r j).trans ?_
  rw [Finset.sup_ite]
  simp

end Cert.ReferenceIdeal.Pool

end
-- ==== Proof.Equation.lean ====
/- The kernel's result is the reference's: the greatest value of a segment's rows, biased and cut off below zero afterwards, is the
   greatest of the rows biased and cut off beforehand. -/
module

public import proofs.«01_k».proof.Proof.IdealRun
public import proofs.«01_k».proof.Proof.ReferenceValue

@[expose] public section

set_option maxRecDepth 16384

noncomputable section

namespace Cert.KernelIdeal.Pool

open Idealize.ShloMosaic Idealize.ShloMosaic.TcCoe Cert.KernelIdeal.Gen Cert.Pool

/-- A sum of products of real numbers is real. -/
theorem real_dot {n : ℕ} (a b : Fin n → EReal) (ha : ∀ k, ∃ y : ℝ, a k = y) (hb : ∀ k, ∃ y : ℝ, b k = y) : ∃ y : ℝ, ∑ k, a k * b k = y := by
  refine Finset.sum_induction (fun k => a k * b k) (fun z : EReal => ∃ y : ℝ, z = y) ?_ ⟨0, rfl⟩ fun k _ => ?_
  · rintro _ _ ⟨x, rfl⟩ ⟨y, rfl⟩
    exact ⟨x + y, (EReal.coe_add x y).symm⟩
  · obtain ⟨x, hx⟩ := ha k
    obtain ⟨y, hy⟩ := hb k
    exact ⟨x * y, by rw [hx, hy, EReal.coe_mul]⟩

variable (m : (ℓ : Loc nD τ sig) → Buf (Elt Ideal) ℓ)

/-- The arguments that enter the product are real numbers. -/
structure RealArgs : Prop where
  feats : ∀ i, ∃ y : ℝ, (feats m i : EReal) = y
  poss : ∀ i, ∃ y : ℝ, (poss m i : EReal) = y
  wts : ∀ i, ∃ y : ℝ, (wts m i : EReal) = y

/-- So every row's value is above `-∞`. -/
theorem rowVal_ne_bot (hF : RealArgs m) (j : Fin 64) (r : Fin 131072) : rowVal m j r ≠ ⊥ := by
  obtain ⟨a, ha⟩ := real_dot (fun k : Fin 61 => (feats m (ValueIdx.ix2 r k) : EReal)) (fun k => wts m (ValueIdx.ix2 j ⟨k.val, by omega⟩))
    (fun k => hF.feats _) (fun k => hF.wts _)
  obtain ⟨b, hb⟩ := real_dot (fun k : Fin 3 => (poss m (ValueIdx.ix2 r k) : EReal)) (fun k => wts m (ValueIdx.ix2 j ⟨61 + k.val, by omega⟩))
    (fun k => hF.poss _) (fun k => hF.wts _)
  have e : rowVal m j r = ((a + b : ℝ) : EReal) := by
    rw [EReal.coe_add, ← ha, ← hb]; rfl
  rw [e]
  exact EReal.coe_ne_bot _

/-- The kernel's result at an index. -/
theorem result_apply (hF : RealArgs m) (s : Fin 16) (j : Fin 64) :
    (result m (ValueIdx.ix2 s j) : EReal)
      = (Finset.univ.filter fun r : Fin 131072 => sid m r = s.val).sup fun r => max (rowVal m j r + bias m (ValueIdx.ix1 j)) 0 := by
  have hall : (Finset.univ.filter fun r : Fin 131072 => r.val < 131072 ∧ sid m r = s.val) = Finset.univ.filter fun r => sid m r = s.val :=
    Finset.filter_congr fun r _ => ⟨fun h => h.2, fun h => ⟨r.isLt, h⟩⟩
  have hp : (pooled m 131072 (ValueIdx.ix2 s j) : EReal) = (Finset.univ.filter fun r : Fin 131072 => sid m r = s.val).sup (rowVal m j) := by
    refine (pooled_apply m 131072 s j).trans ?_
    unfold segSup
    rw [hall]
  unfold result
  refine (pay1_apply _ _ s j).trans ?_
  rw [hp, blk_bias]
  exact sup_finish _ _ _ fun r _ => rowVal_ne_bot m hF j r

/-- The two results are equal. -/
theorem result_eq (hF : RealArgs m) :
    result m = Cert.ReferenceIdeal.Read.val_main_v15 (F := Ideal) (feats m) (poss m) (wts m) (bias m) (ids m) := by
  funext i
  rw [show i = ValueIdx.ix2 (i 0) (i 1) from ValueIdx.eq_ix2 i]
  refine (result_apply m hF (i 0) (i 1)).trans ?_
  exact (Cert.ReferenceIdeal.Pool.result_apply (feats m) (poss m) (wts m) (bias m) (ids m) (i 0) (i 1)).symm

end Cert.KernelIdeal.Pool

end
-- ==== Proof.lean ====
/- The certificate of the pooling kernel: every claim of the directory, assembled from the modules of Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.KernelFrame
public import proofs.«01_k».proof.Proof.IdealFrame
public import proofs.«01_k».proof.Proof.Gen.Pre_sorted_and_finite
public import proofs.«01_k».proof.Proof.Conditions
public import proofs.«01_k».proof.Proof.SortedFinite
public import proofs.«01_k».proof.Proof.Equation
public import Idealize.ShloMosaic.Adequacy
public import Idealize.ShloMosaic.Init

@[expose] public section

noncomputable section

namespace Cert.Proof

open Idealize.ShloMosaic Idealize.SL.Sem

/-- The kernel runs whenever every segment id is in range. -/
theorem kernel_frame : Cert.quiescent_Kernel := fun m ρ h =>
  Cert.Kernel.Pool.frame_run m ρ fun r => Cert.Pool.lt_of_ids_in_range (h 0) r

/-- So does its ideal reading. -/
theorem ideal_frame : Cert.quiescent_KernelIdeal := fun m ρ h =>
  Cert.KernelIdeal.Pool.frame_run m ρ fun r => Cert.Pool.lt_of_ids_in_range (h 0) r

/-- The reference runs from any memory: it is a chain of host operations, with no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal reading also runs under the stronger precondition, which contains the range. -/
theorem ideal_frame_sorted : Cert.quiescent_KernelIdeal_pre_sorted_and_finite := fun m ρ h =>
  Cert.KernelIdeal.Pool.frame_run m ρ fun r => Cert.Pool.lt_of_sorted_and_finite (h 0).1 r

/-- And so does the reference. -/
theorem reference_frame_sorted : Cert.quiescent_ReferenceIdeal_pre_sorted_and_finite := fun m ρ _ => reference_frame m ρ trivial

/-- The kernel's ideal reading ends with the reference's result, as a function of the arguments. -/
theorem ideal_result (m : (ℓ : Loc Cert.KernelIdeal.nD Cert.KernelIdeal.τ Cert.KernelIdeal.sig) → Buf (Elt Ideal) ℓ)
    (g : Dev Cert.KernelIdeal.nD → PrngReg) (h : Cert.Pre_KernelIdeal_sorted_and_finite m) :
    θ_run (Cert.KernelIdeal.defs (F := Ideal)) (onTc (τ := Cert.KernelIdeal.τ) (Cert.KernelIdeal.main (F := Ideal))) ⟨m, fun _ => 0, g⟩
      (fun r => r.2.mem (((0 : Dev Cert.KernelIdeal.nD).tc : Thread Cert.KernelIdeal.nD Cert.KernelIdeal.τ).loc Cert.KernelIdeal.main_v15)
        = Cert.ReferenceIdeal.Read.val_main_v15 (F := Ideal) (Cert.KernelIdeal.Pool.feats m) (Cert.KernelIdeal.Pool.poss m)
            (Cert.KernelIdeal.Pool.wts m) (Cert.KernelIdeal.Pool.bias m) (Cert.KernelIdeal.Pool.ids m)) := by
  have h0 := h 0
  have hR : ∀ r, (Cert.KernelIdeal.Pool.ids m r).toNat < 16 := fun r => Cert.Pool.lt_of_sorted_and_finite h0.1 r
  have hS : Cert.KernelIdeal.Pool.Sorted m := fun hrs => Cert.Pool.mono_of_sorted hR h0.2.1 hrs
  have hF : Cert.KernelIdeal.Pool.RealArgs m :=
    ⟨Cert.Pool.finite_features h0.2.2.1, Cert.Pool.finite_positions h0.2.2.2.1, Cert.Pool.finite_weights h0.2.2.2.2⟩
  refine θ_run_mono (Cert.KernelIdeal.Pool.run_exact m g hR hS) fun r hr => ?_
  exact ((hr 0).1 5).trans ((Cert.KernelIdeal.Pool.final_out m).trans (Cert.KernelIdeal.Pool.result_eq m hF))

/-- The kernel's ideal reading and the reference end with equal results. -/
theorem results_equal : Cert.algebraic_KernelIdeal_ReferenceIdeal_pre_sorted_and_finite := by
  intro m g m' g' hpre hagree
  refine ⟨fun _ => Cert.ReferenceIdeal.Read.val_main_v15 (F := Ideal) (Cert.KernelIdeal.Pool.feats m) (Cert.KernelIdeal.Pool.poss m)
    (Cert.KernelIdeal.Pool.wts m) (Cert.KernelIdeal.Pool.bias m) (Cert.KernelIdeal.Pool.ids m), ?_, ?_⟩
  · refine θ_run_mono (θ_run_and (ideal_result m g hpre) (ideal_frame_sorted m g hpre)) fun r hr c => ?_
    obtain rfl : c = 0 := Subsingleton.elim _ _
    exact ⟨hr.1, hr.2.1 0⟩
  · refine θ_run_mono (Cert.ReferenceIdeal.Value.run (F := Ideal) m' g') fun r hr c => ?_
    obtain rfl : c = 0 := Subsingleton.elim _ _
    refine ⟨(hr 0).1.trans ?_, (hr 0).2⟩
    refine (Cert.ReferenceIdeal.Read.val_main_v15_eq _ _ _ _ _).trans ?_
    obtain ⟨e0, e1, e2, e3, e4⟩ := hagree 0
    rw [e0, e1, e2, e3, e4]

theorem claim : Cert.Claim := ⟨Cert.Kernel.Gen.facts, Cert.KernelIdeal.Gen.facts, Cert.ReferenceIdeal.Gen.facts, Cert.Pre_ids_in_range.Gen.facts,
  Cert.Pre_sorted_and_finite.Gen.facts, kernel_frame, ideal_frame, ideal_frame_sorted, reference_frame, reference_frame_sorted, trivial, results_equal⟩

end Cert.Proof

end
